-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1x2048x2048 : Shape := ⟨3, ![1, 2048, 2048]⟩
abbrev S1x2048x1536 : Shape := ⟨3, ![1, 2048, 1536]⟩
abbrev S2048x32 : Shape := ⟨2, ![2048, 32]⟩
abbrev S2048x1536 : Shape := ⟨2, ![2048, 1536]⟩
abbrev S128x2048 : Shape := ⟨2, ![128, 2048]⟩
abbrev S128 : Shape := ⟨1, ![128]⟩
abbrev S16x2048 : Shape := ⟨2, ![16, 2048]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x16x32 : Shape := ⟨4, ![1, 2048, 16, 32]⟩
abbrev S1x2048x1x32 : Shape := ⟨4, ![1, 2048, 1, 32]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x1x64 : Shape := ⟨4, ![1, 2048, 1, 64]⟩
abbrev S2048x16 : Shape := ⟨2, ![2048, 16]⟩
abbrev S1x2048x16 : Shape := ⟨3, ![1, 2048, 16]⟩
abbrev S1x2048x2048x16 : Shape := ⟨4, ![1, 2048, 2048, 16]⟩
abbrev S1x2048x1025 : Shape := ⟨3, ![1, 2048, 1025]⟩

class Facts : Prop where
  transposes_S2048x1536_S1536x2048_1_0 : S2048x1536.Transposes [1, 0] S1536x2048
  shapeCasts_S1x2048x2048_S1x2048x16x128 : S1x2048x2048.ShapeCasts S1x2048x16x128
  slices_S1x2048x16x128_S1x2048x16x64_0_0_0_0 : S1x2048x16x128.Slices ![0, 0, 0, 0] S1x2048x16x64
  slices_S1x2048x16x128_S1x2048x16x64_0_0_0_64 : S1x2048x16x128.Slices ![0, 0, 0, 64] S1x2048x16x64
  slices_S1x2048x16x64_S1x2048x16x32_0_0_0_0 : S1x2048x16x64.Slices ![0, 0, 0, 0] S1x2048x16x32
  slices_S1x2048x16x64_S1x2048x16x32_0_0_0_32 : S1x2048x16x64.Slices ![0, 0, 0, 32] S1x2048x16x32
  bcast_S2048x32_S1x2048x1x32_1_3 : S2048x32.BroadcastsInDim S1x2048x1x32 (![1, 3] : Fin 2 → Fin S1x2048x1x32.rank)
  bcast_S1x2048x1x32_S1x2048x16x32_0_1_2_3 : S1x2048x1x32.BroadcastsInDim S1x2048x16x32 (![0, 1, 2, 3] : Fin 4 → Fin S1x2048x16x32.rank)
  concatenates_S1x2048x16x32_S1x2048x16x32_S1x2048x16x64_d3 : Shape.Concatenates [S1x2048x16x32, S1x2048x16x32] S1x2048x16x64 3
  concatenates_S1x2048x16x64_S1x2048x16x64_S1x2048x16x128_d3 : Shape.Concatenates [S1x2048x16x64, S1x2048x16x64] S1x2048x16x128 3
  transposes_S128x2048_S2048x128_1_0 : S128x2048.Transposes [1, 0] S2048x128
  reducesTo_S1x2048x128_S1x2048_d2 : S1x2048x128.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x128_0_1_2 : S1x2048x1.BroadcastsInDim S1x2048x128 (![0, 1, 2] : Fin 3 → Fin S1x2048x128.rank)
  bcast_S128_S1x1x128_2 : S128.BroadcastsInDim S1x1x128 (![2] : Fin 1 → Fin S1x1x128.rank)
  bcast_S1x1x128_S1x2048x128_0_1_2 : S1x1x128.BroadcastsInDim S1x2048x128 (![0, 1, 2] : Fin 3 → Fin S1x2048x128.rank)
  slices_S1x2048x128_S1x2048x64_0_0_0 : S1x2048x128.Slices ![0, 0, 0] S1x2048x64
  slices_S1x2048x128_S1x2048x64_0_0_64 : S1x2048x128.Slices ![0, 0, 64] S1x2048x64
  bcast_S1x2048x64_S1x2048x1x64_0_1_3 : S1x2048x64.BroadcastsInDim S1x2048x1x64 (![0, 1, 3] : Fin 3 → Fin S1x2048x1x64.rank)
  slices_S1x2048x1x64_S1x2048x1x32_0_0_0_0 : S1x2048x1x64.Slices ![0, 0, 0, 0] S1x2048x1x32
  slices_S1x2048x1x64_S1x2048x1x32_0_0_0_32 : S1x2048x1x64.Slices ![0, 0, 0, 32] S1x2048x1x32
  concatenates_S1x2048x1x32_S1x2048x1x32_S1x2048x1x64_d3 : Shape.Concatenates [S1x2048x1x32, S1x2048x1x32] S1x2048x1x64 3
  shapeCasts_S1x2048x1x64_S1x2048x64 : S1x2048x1x64.ShapeCasts S1x2048x64
  concatenates_S1x2048x64_S1x2048x64_S1x2048x128_d2 : Shape.Concatenates [S1x2048x64, S1x2048x64] S1x2048x128 2
  transposes_S16x2048_S2048x16_1_0 : S16x2048.Transposes [1, 0] S2048x16
  bcast_S_S1x2048x16 : S_.BroadcastsInDim S1x2048x16 (![] : Fin 0 → Fin S1x2048x16.rank)
  transposes_S1x2048x2048x16_S1x2048x2048x16_0_2_1_3 : S1x2048x2048x16.Transposes [0, 2, 1, 3] S1x2048x2048x16
  bcast_S_S1x2048x2048x16 : S_.BroadcastsInDim S1x2048x2048x16 (![] : Fin 0 → Fin S1x2048x2048x16.rank)
  sliceFits_S1x2048x2048_S1x2048x1025 : S1x2048x2048.Slices (fun _ => 0) S1x2048x1025
  slices_S1x2048x1025_S1x2048x1_0_0_1023 : S1x2048x1025.Slices ![0, 0, 1023] S1x2048x1
  shapeCasts_S1x2048x1_S1x2048 : S1x2048x1.ShapeCasts S1x2048
  slices_S1x2048x1025_S1x2048x1_0_0_1024 : S1x2048x1025.Slices ![0, 0, 1024] S1x2048x1
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_
  dot_S1x2048x1536_S1536x2048_S1x2048x2048_2_0_01_1_n_n_wf : DotDims.WF S1x2048x1536 S1536x2048 S1x2048x2048 [2] [0] [0, 1] [1] [] []
  dot_S1x2048x2048_S2048x128_S1x2048x128_2_0_01_1_n_n_wf : DotDims.WF S1x2048x2048 S2048x128 S1x2048x128 [2] [0] [0, 1] [1] [] []
  dot_S1x2048x2048_S2048x16_S1x2048x16_2_0_01_1_n_n_wf : DotDims.WF S1x2048x2048 S2048x16 S1x2048x16 [2] [0] [0, 1] [1] [] []
  dot_S1x2048x128_S1x2048x16x128_S1x2048x2048x16_2_3_1_12_0_0_wf : DotDims.WF S1x2048x128 S1x2048x16x128 S1x2048x2048x16 [2] [3] [1] [1, 2] [0] [0]
  dot_S1x2048x2048x16_S1x2048x16_S1x2048x2048_3_2_2_n_01_01_wf : DotDims.WF S1x2048x2048x16 S1x2048x16 S1x2048x2048 [3] [2] [2] [] [0, 1] [0, 1]

variable [Facts]

def dot_S1x2048x1536_S1536x2048_S1x2048x2048_2_0_01_1_n_n : DotDims S1x2048x1536 S1536x2048 S1x2048x2048 where
  lhsContracting := [2]
  rhsContracting := [0]
  lhsNonContracting := [0, 1]
  rhsNonContracting := [1]
  lhsBatch := []
  rhsBatch := []
  wf := dot_S1x2048x1536_S1536x2048_S1x2048x2048_2_0_01_1_n_n_wf
def dot_S1x2048x2048_S2048x128_S1x2048x128_2_0_01_1_n_n : DotDims S1x2048x2048 S2048x128 S1x2048x128 where
  lhsContracting := [2]
  rhsContracting := [0]
  lhsNonContracting := [0, 1]
  rhsNonContracting := [1]
  lhsBatch := []
  rhsBatch := []
  wf := dot_S1x2048x2048_S2048x128_S1x2048x128_2_0_01_1_n_n_wf
def dot_S1x2048x2048_S2048x16_S1x2048x16_2_0_01_1_n_n : DotDims S1x2048x2048 S2048x16 S1x2048x16 where
  lhsContracting := [2]
  rhsContracting := [0]
  lhsNonContracting := [0, 1]
  rhsNonContracting := [1]
  lhsBatch := []
  rhsBatch := []
  wf := dot_S1x2048x2048_S2048x16_S1x2048x16_2_0_01_1_n_n_wf
def dot_S1x2048x128_S1x2048x16x128_S1x2048x2048x16_2_3_1_12_0_0 : DotDims S1x2048x128 S1x2048x16x128 S1x2048x2048x16 where
  lhsContracting := [2]
  rhsContracting := [3]
  lhsNonContracting := [1]
  rhsNonContracting := [1, 2]
  lhsBatch := [0]
  rhsBatch := [0]
  wf := dot_S1x2048x128_S1x2048x16x128_S1x2048x2048x16_2_3_1_12_0_0_wf
def dot_S1x2048x2048x16_S1x2048x16_S1x2048x2048_3_2_2_n_01_01 : DotDims S1x2048x2048x16 S1x2048x16 S1x2048x2048 where
  lhsContracting := [3]
  rhsContracting := [2]
  lhsNonContracting := [2]
  rhsNonContracting := []
  lhsBatch := [0, 1]
  rhsBatch := [0, 1]
  wf := dot_S1x2048x2048x16_S1x2048x16_S1x2048x2048_3_2_2_n_01_01_wf
def fn_relu {F : FTy → Type} [FloatOps F] (arg0 : FVec F S1x2048x2048x16 .f32) : FVec F S1x2048x2048x16 .f32 :=
  let cst : FVec F S_ .f32 := constant S_ .f32 0x00000000#32
  let v0 : FVec F S1x2048x2048x16 .f32 := broadcastInDim S1x2048x2048x16 ![] bcast_S_S1x2048x2048x16 cst
  let v1 : FVec F S1x2048x2048x16 .f32 := maximumf arg0 v0
  v1

def fn_part4 {F : FTy → Type} [FloatOps F] (main_v78 : FVec F S1x2048 .f32) (main_v79 : FVec F S1x2048 .f32) (main_v82 : IVec S_ 1) (main_v83 : FVec F S1x2048 .f32) : IVec S_ 1 :=
  let main_v84 : IVec S1x2048 1 := cmpf .ole main_v79 main_v83
  let main_cst_8 : FVec F S_ .f32 := constant S_ .f32 0x34000000#32
  let main_v85 : FVec F S1x2048 .f32 := broadcastInDim S1x2048 ![] bcast_S_S1x2048 main_cst_8
  let main_v86 : FVec F S1x2048 .f32 := mulf main_v79 main_v85
  let main_v87 : IVec S1x2048 1 := cmpf .oge main_v78 main_v86
  let main_v88 : IVec S1x2048 1 := andi main_v84 main_v87
  let main_cst_9 : FVec F S_ .f32 := constant S_ .f32 0x00800000#32
  let main_v89 : FVec F S1x2048 .f32 := broadcastInDim S1x2048 ![] bcast_S_S1x2048 main_cst_9
  let main_v90 : IVec S1x2048 1 := cmpf .oge main_v78 main_v89
  let main_v91 : IVec S1x2048 1 := andi main_v88 main_v90
  let main_c_10 : IVec S_ 1 := constantI S_ 1 1#1
  let main_v92 : IVec S_ 1 := (fun x v => Host.reduce IntOp.andi x v reducesTo_S1x2048_S_d0_1 h_S_) main_v91 main_c_10
  let main_v93 : IVec S_ 1 := andi main_v82 main_v92
  main_v93

def fn_part3 {F : FTy → Type} [FloatOps F] (main_arg4 : FVec F S1x2048x2048 .f32) (main_v20 : FVec F S1x2048x16x128 .f32) (main_v62 : FVec F S1x2048x128 .f32) (main_v64 : FVec F S1x2048x16 .f32) (main_v65 : FVec F S1x2048x16 .f32) : IVec S_ 1 :=
  let main_v66 : FVec F S1x2048x16 .f32 := mulf main_v64 main_v65
  let main_cst_5 : FVec F S_ .f32 := constant S_ .f32 0x3DB504F3#32
  let main_v67 : FVec F S1x2048x16 .f32 := broadcastInDim S1x2048x16 ![] bcast_S_S1x2048x16 main_cst_5
  let main_v68 : FVec F S1x2048x16 .f32 := mulf main_v66 main_v67
  let main_v69 : FVec F S1x2048x2048x16 .f32 := (fun l r => Host.dotGeneral dot_S1x2048x128_S1x2048x16x128_S1x2048x2048x16_2_3_1_12_0_0 none l r) main_v62 main_v20
  let main_v70 : FVec F S1x2048x2048x16 .f32 := (transpose S1x2048x2048x16 [0, 2, 1, 3] · transposes_S1x2048x2048x16_S1x2048x2048x16_0_2_1_3) main_v69
  let main_v71 : FVec F S1x2048x2048x16 .f32 := fn_relu (F := F) main_v70
  let main_v72 : FVec F S1x2048x2048 .f32 := (fun l r => Host.dotGeneral dot_S1x2048x2048x16_S1x2048x16_S1x2048x2048_3_2_2_n_01_01 none l r) main_v71 main_v68
  let main_v73 : FVec F S1x2048x2048 .f32 := addf main_v72 main_arg4
  let main_values : FVec F S1x2048x1025 .f32 := (fun x => (Host.topK S1x2048x1025 2 (FloatOps.cmpfTotal .gt) x sliceFits_S1x2048x2048_S1x2048x1025).1) main_v73
  let main_indices : IVec S1x2048x1025 32 := (fun x => (Host.topK S1x2048x1025 2 (FloatOps.cmpfTotal .gt) x sliceFits_S1x2048x2048_S1x2048x1025).2) main_v73
  let main_v74 : FVec F S1x2048x1 .f32 := (extractStridedSlice S1x2048x1 ![0, 0, 1023] · slices_S1x2048x1025_S1x2048x1_0_0_1023) main_values
  let main_v75 : FVec F S1x2048 .f32 := shapeCast S1x2048 main_v74 shapeCasts_S1x2048x1_S1x2048
  let main_v76 : FVec F S1x2048x1 .f32 := (extractStridedSlice S1x2048x1 ![0, 0, 1024] · slices_S1x2048x1025_S1x2048x1_0_0_1024) main_values
  let main_v77 : FVec F S1x2048 .f32 := shapeCast S1x2048 main_v76 shapeCasts_S1x2048x1_S1x2048
  let main_v78 : FVec F S1x2048 .f32 := subf main_v75 main_v77
  let main_v79 : FVec F S1x2048 .f32 := Host.absf main_v75
  let main_cst_6 : FVec F S_ .f32 := constant S_ .f32 0x00000000#32
  let main_v80 : FVec F S1x2048x2048 .f32 := broadcastInDim S1x2048x2048 ![] bcast_S_S1x2048x2048 main_cst_6
  let main_v81 : IVec S1x2048x2048 1 := cmpf .oeq main_arg4 main_v80
  let main_c : IVec S_ 1 := constantI S_ 1 1#1
  let main_v82 : IVec S_ 1 := (fun x v => Host.reduce IntOp.andi x v reducesTo_S1x2048x2048_S_d0_1_2 h_S_) main_v81 main_c
  let main_cst_7 : FVec F S_ .f32 := constant S_ .f32 0x7E800000#32
  let main_v83 : FVec F S1x2048 .f32 := broadcastInDim S1x2048 ![] bcast_S_S1x2048 main_cst_7
  fn_part4 (F := F) main_v78 main_v79 main_v82 main_v83

def fn_part2 {F : FTy → Type} [FloatOps F] (main_arg0 : FVec F S1x2048x2048 .f32) (main_arg2 : FVec F S2048x32 .f32) (main_arg3 : FVec F S2048x32 .f32) (main_arg4 : FVec F S1x2048x2048 .f32) (main_arg8 : FVec F S128 .f32) (main_arg9 : FVec F S16x2048 .f32) (main_v20 : FVec F S1x2048x16x128 .f32) (main_v40 : FVec F S1x2048x128 .f32) (main_v42 : FVec F S1x2048x128 .f32) : IVec S_ 1 :=
  let main_v43 : FVec F S1x2048x128 .f32 := mulf main_v40 main_v42
  let main_v44 : FVec F S1x1x128 .f32 := broadcastInDim S1x1x128 ![2] bcast_S128_S1x1x128_2 main_arg8
  let main_v45 : FVec F S1x2048x128 .f32 := broadcastInDim S1x2048x128 ![0, 1, 2] bcast_S1x1x128_S1x2048x128_0_1_2 main_v44
  let main_v46 : FVec F S1x2048x128 .f32 := addf main_v43 main_v45
  let main_v47 : FVec F S1x2048x64 .f32 := (extractStridedSlice S1x2048x64 ![0, 0, 0] · slices_S1x2048x128_S1x2048x64_0_0_0) main_v46
  let main_v48 : FVec F S1x2048x64 .f32 := (extractStridedSlice S1x2048x64 ![0, 0, 64] · slices_S1x2048x128_S1x2048x64_0_0_64) main_v46
  let main_v49 : FVec F S1x2048x1x64 .f32 := broadcastInDim S1x2048x1x64 ![0, 1, 3] bcast_S1x2048x64_S1x2048x1x64_0_1_3 main_v47
  let main_v50 : FVec F S1x2048x1x32 .f32 := (extractStridedSlice S1x2048x1x32 ![0, 0, 0, 0] · slices_S1x2048x1x64_S1x2048x1x32_0_0_0_0) main_v49
  let main_v51 : FVec F S1x2048x1x32 .f32 := (extractStridedSlice S1x2048x1x32 ![0, 0, 0, 32] · slices_S1x2048x1x64_S1x2048x1x32_0_0_0_32) main_v49
  let main_v52 : FVec F S1x2048x1x32 .f32 := broadcastInDim S1x2048x1x32 ![1, 3] bcast_S2048x32_S1x2048x1x32_1_3 main_arg2
  let main_v53 : FVec F S1x2048x1x32 .f32 := broadcastInDim S1x2048x1x32 ![1, 3] bcast_S2048x32_S1x2048x1x32_1_3 main_arg3
  let main_v54 : FVec F S1x2048x1x32 .f32 := mulf main_v50 main_v52
  let main_v55 : FVec F S1x2048x1x32 .f32 := mulf main_v51 main_v53
  let main_v56 : FVec F S1x2048x1x32 .f32 := subf main_v54 main_v55
  let main_v57 : FVec F S1x2048x1x32 .f32 := mulf main_v50 main_v53
  let main_v58 : FVec F S1x2048x1x32 .f32 := mulf main_v51 main_v52
  let main_v59 : FVec F S1x2048x1x32 .f32 := addf main_v57 main_v58
  let main_v60 : FVec F S1x2048x1x64 .f32 := (fun a b => concatenate S1x2048x1x64 3 [⟨S1x2048x1x32, a⟩, ⟨S1x2048x1x32, b⟩] concatenates_S1x2048x1x32_S1x2048x1x32_S1x2048x1x64_d3) main_v56 main_v59
  let main_v61 : FVec F S1x2048x64 .f32 := shapeCast S1x2048x64 main_v60 shapeCasts_S1x2048x1x64_S1x2048x64
  let main_v62 : FVec F S1x2048x128 .f32 := (fun a b => concatenate S1x2048x128 2 [⟨S1x2048x64, a⟩, ⟨S1x2048x64, b⟩] concatenates_S1x2048x64_S1x2048x64_S1x2048x128_d2) main_v61 main_v48
  let main_v63 : FVec F S2048x16 .f32 := (transpose S2048x16 [1, 0] · transposes_S16x2048_S2048x16_1_0) main_arg9
  let main_v64 : FVec F S1x2048x16 .f32 := (fun l r => Host.dotGeneral dot_S1x2048x2048_S2048x16_S1x2048x16_2_0_01_1_n_n none l r) main_arg0 main_v63
  let main_cst_4 : FVec F S_ .f32 := constant S_ .f32 0x3E800000#32
  let main_v65 : FVec F S1x2048x16 .f32 := broadcastInDim S1x2048x16 ![] bcast_S_S1x2048x16 main_cst_4
  fn_part3 (F := F) main_arg4 main_v20 main_v62 main_v64 main_v65

def fn_part1 {F : FTy → Type} [FloatOps F] (main_arg0 : FVec F S1x2048x2048 .f32) (main_arg2 : FVec F S2048x32 .f32) (main_arg3 : FVec F S2048x32 .f32) (main_arg4 : FVec F S1x2048x2048 .f32) (main_arg7 : FVec F S128 .f32) (main_arg8 : FVec F S128 .f32) (main_arg9 : FVec F S16x2048 .f32) (main_v20 : FVec F S1x2048x16x128 .f32) (main_v22 : FVec F S1x2048x128 .f32) (main_cst : FVec F S_ .f32) : IVec S_ 1 :=
  let main_v23 : FVec F S1x2048 .f32 := (fun x v => Host.reduceAdd x v reducesTo_S1x2048x128_S1x2048_d2 h_S_) main_v22 main_cst
  let main_v24 : FVec F S1x2048x1 .f32 := broadcastInDim S1x2048x1 ![0, 1] bcast_S1x2048_S1x2048x1_0_1 main_v23
  let main_cst_0 : FVec F S_ .f32 := constant S_ .f32 0x43000000#32
  let main_v25 : FVec F S1x2048x1 .f32 := broadcastInDim S1x2048x1 ![] bcast_S_S1x2048x1 main_cst_0
  let main_v26 : FVec F S1x2048x1 .f32 := Host.divf main_v24 main_v25
  let main_v27 : FVec F S1x2048x128 .f32 := broadcastInDim S1x2048x128 ![0, 1, 2] bcast_S1x2048x1_S1x2048x128_0_1_2 main_v26
  let main_v28 : FVec F S1x2048x128 .f32 := subf main_v22 main_v27
  let main_v29 : FVec F S1x2048x128 .f32 := mulf main_v28 main_v28
  let main_cst_1 : FVec F S_ .f32 := constant S_ .f32 0x00000000#32
  let main_v30 : FVec F S1x2048 .f32 := (fun x v => Host.reduceAdd x v reducesTo_S1x2048x128_S1x2048_d2 h_S_) main_v29 main_cst_1
  let main_v31 : FVec F S1x2048x1 .f32 := broadcastInDim S1x2048x1 ![0, 1] bcast_S1x2048_S1x2048x1_0_1 main_v30
  let main_cst_2 : FVec F S_ .f32 := constant S_ .f32 0x43000000#32
  let main_v32 : FVec F S1x2048x1 .f32 := broadcastInDim S1x2048x1 ![] bcast_S_S1x2048x1 main_cst_2
  let main_v33 : FVec F S1x2048x1 .f32 := Host.divf main_v31 main_v32
  let main_v34 : FVec F S1x2048x128 .f32 := broadcastInDim S1x2048x128 ![0, 1, 2] bcast_S1x2048x1_S1x2048x128_0_1_2 main_v26
  let main_v35 : FVec F S1x2048x128 .f32 := subf main_v22 main_v34
  let main_cst_3 : FVec F S_ .f32 := constant S_ .f32 0x358637BD#32
  let main_v36 : FVec F S1x2048x1 .f32 := broadcastInDim S1x2048x1 ![] bcast_S_S1x2048x1 main_cst_3
  let main_v37 : FVec F S1x2048x1 .f32 := addf main_v33 main_v36
  let main_v38 : FVec F S1x2048x1 .f32 := Host.sqrt main_v37
  let main_v39 : FVec F S1x2048x128 .f32 := broadcastInDim S1x2048x128 ![0, 1, 2] bcast_S1x2048x1_S1x2048x128_0_1_2 main_v38
  let main_v40 : FVec F S1x2048x128 .f32 := Host.divf main_v35 main_v39
  let main_v41 : FVec F S1x1x128 .f32 := broadcastInDim S1x1x128 ![2] bcast_S128_S1x1x128_2 main_arg7
  let main_v42 : FVec F S1x2048x128 .f32 := broadcastInDim S1x2048x128 ![0, 1, 2] bcast_S1x1x128_S1x2048x128_0_1_2 main_v41
  fn_part2 (F := F) main_arg0 main_arg2 main_arg3 main_arg4 main_arg8 main_arg9 main_v20 main_v40 main_v42

def fn {F : FTy → Type} [FloatOps F] (main_arg0 : FVec F S1x2048x2048 .f32) (main_arg1 : FVec F S1x2048x1536 .f32) (main_arg2 : FVec F S2048x32 .f32) (main_arg3 : FVec F S2048x32 .f32) (main_arg4 : FVec F S1x2048x2048 .f32) (main_arg5 : FVec F S2048x1536 .f32) (main_arg6 : FVec F S128x2048 .f32) (main_arg7 : FVec F S128 .f32) (main_arg8 : FVec F S128 .f32) (main_arg9 : FVec F S16x2048 .f32) : IVec S_ 1 :=
  let main_v0 : FVec F S1536x2048 .f32 := (transpose S1536x2048 [1, 0] · transposes_S2048x1536_S1536x2048_1_0) main_arg5
  let main_v1 : FVec F S1x2048x2048 .f32 := (fun l r => Host.dotGeneral dot_S1x2048x1536_S1536x2048_S1x2048x2048_2_0_01_1_n_n none l r) main_arg1 main_v0
  let main_v2 : FVec F S1x2048x16x128 .f32 := shapeCast S1x2048x16x128 main_v1 shapeCasts_S1x2048x2048_S1x2048x16x128
  let main_v3 : FVec F S1x2048x16x64 .f32 := (extractStridedSlice S1x2048x16x64 ![0, 0, 0, 0] · slices_S1x2048x16x128_S1x2048x16x64_0_0_0_0) main_v2
  let main_v4 : FVec F S1x2048x16x64 .f32 := (extractStridedSlice S1x2048x16x64 ![0, 0, 0, 64] · slices_S1x2048x16x128_S1x2048x16x64_0_0_0_64) main_v2
  let main_v5 : FVec F S1x2048x16x32 .f32 := (extractStridedSlice S1x2048x16x32 ![0, 0, 0, 0] · slices_S1x2048x16x64_S1x2048x16x32_0_0_0_0) main_v3
  let main_v6 : FVec F S1x2048x16x32 .f32 := (extractStridedSlice S1x2048x16x32 ![0, 0, 0, 32] · slices_S1x2048x16x64_S1x2048x16x32_0_0_0_32) main_v3
  let main_v7 : FVec F S1x2048x1x32 .f32 := broadcastInDim S1x2048x1x32 ![1, 3] bcast_S2048x32_S1x2048x1x32_1_3 main_arg2
  let main_v8 : FVec F S1x2048x1x32 .f32 := broadcastInDim S1x2048x1x32 ![1, 3] bcast_S2048x32_S1x2048x1x32_1_3 main_arg3
  let main_v9 : FVec F S1x2048x16x32 .f32 := broadcastInDim S1x2048x16x32 ![0, 1, 2, 3] bcast_S1x2048x1x32_S1x2048x16x32_0_1_2_3 main_v7
  let main_v10 : FVec F S1x2048x16x32 .f32 := mulf main_v5 main_v9
  let main_v11 : FVec F S1x2048x16x32 .f32 := broadcastInDim S1x2048x16x32 ![0, 1, 2, 3] bcast_S1x2048x1x32_S1x2048x16x32_0_1_2_3 main_v8
  let main_v12 : FVec F S1x2048x16x32 .f32 := mulf main_v6 main_v11
  let main_v13 : FVec F S1x2048x16x32 .f32 := subf main_v10 main_v12
  let main_v14 : FVec F S1x2048x16x32 .f32 := broadcastInDim S1x2048x16x32 ![0, 1, 2, 3] bcast_S1x2048x1x32_S1x2048x16x32_0_1_2_3 main_v8
  let main_v15 : FVec F S1x2048x16x32 .f32 := mulf main_v5 main_v14
  let main_v16 : FVec F S1x2048x16x32 .f32 := broadcastInDim S1x2048x16x32 ![0, 1, 2, 3] bcast_S1x2048x1x32_S1x2048x16x32_0_1_2_3 main_v7
  let main_v17 : FVec F S1x2048x16x32 .f32 := mulf main_v6 main_v16
  let main_v18 : FVec F S1x2048x16x32 .f32 := addf main_v15 main_v17
  let main_v19 : FVec F S1x2048x16x64 .f32 := (fun a b => concatenate S1x2048x16x64 3 [⟨S1x2048x16x32, a⟩, ⟨S1x2048x16x32, b⟩] concatenates_S1x2048x16x32_S1x2048x16x32_S1x2048x16x64_d3) main_v13 main_v18
  let main_v20 : FVec F S1x2048x16x128 .f32 := (fun a b => concatenate S1x2048x16x128 3 [⟨S1x2048x16x64, a⟩, ⟨S1x2048x16x64, b⟩] concatenates_S1x2048x16x64_S1x2048x16x64_S1x2048x16x128_d3) main_v19 main_v4
  let main_v21 : FVec F S2048x128 .f32 := (transpose S2048x128 [1, 0] · transposes_S128x2048_S2048x128_1_0) main_arg6
  let main_v22 : FVec F S1x2048x128 .f32 := (fun l r => Host.dotGeneral dot_S1x2048x2048_S2048x128_S1x2048x128_2_0_01_1_n_n none l r) main_arg0 main_v21
  let main_cst : FVec F S_ .f32 := constant S_ .f32 0x00000000#32
  fn_part1 (F := F) main_arg0 main_arg2 main_arg3 main_arg4 main_arg7 main_arg8 main_arg9 main_v20 main_v22 main_cst
-- ==== Kernel.lean ====
abbrev S1x2048x2048 : Shape := ⟨3, ![1, 2048, 2048]⟩
abbrev S1x2048x1536 : Shape := ⟨3, ![1, 2048, 1536]⟩
abbrev S2048x32 : Shape := ⟨2, ![2048, 32]⟩
abbrev S2048x1536 : Shape := ⟨2, ![2048, 1536]⟩
abbrev S128x2048 : Shape := ⟨2, ![128, 2048]⟩
abbrev S128 : Shape := ⟨1, ![128]⟩
abbrev S16x2048 : Shape := ⟨2, ![16, 2048]⟩
abbrev S2048x2048 : Shape := ⟨2, ![2048, 2048]⟩
abbrev S_ : Shape := ⟨0, ![]⟩
abbrev S2048x64 : Shape := ⟨2, ![2048, 64]⟩
abbrev S2048x128 : Shape := ⟨2, ![2048, 128]⟩
abbrev S2048x16 : Shape := ⟨2, ![2048, 16]⟩
abbrev S1536x2048 : Shape := ⟨2, ![1536, 2048]⟩
abbrev S1x128 : Shape := ⟨2, ![1, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x96 : Shape := ⟨2, ![256, 96]⟩
abbrev S256x32 : Shape := ⟨2, ![256, 32]⟩
abbrev S256x1536 : Shape := ⟨2, ![256, 1536]⟩
abbrev S256x2016 : Shape := ⟨2, ![256, 2016]⟩

abbrev nBuf : Space → Nat
  | .hbm => 31
  | .vmem => 26
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S2048x32, .f32⟩
  | .hbm, ⟨3, _⟩ => ⟨S2048x32, .f32⟩
  | .hbm, ⟨4, _⟩ => ⟨S1x2048x2048, .f32⟩
  | .hbm, ⟨5, _⟩ => ⟨S2048x1536, .f32⟩
  | .hbm, ⟨6, _⟩ => ⟨S128x2048, .f32⟩
  | .hbm, ⟨7, _⟩ => ⟨S128, .f32⟩
  | .hbm, ⟨8, _⟩ => ⟨S128, .f32⟩
  | .hbm, ⟨9, _⟩ => ⟨S16x2048, .f32⟩
  | .hbm, ⟨10, _⟩ => ⟨S2048x2048, .f32⟩
  | .hbm, ⟨11, _⟩ => ⟨S2048x1536, .f32⟩
  | .hbm, ⟨12, _⟩ => ⟨S_, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x128, .f32⟩
  | .hbm, ⟨17, _⟩ => ⟨S2048x32, .f32⟩
  | .hbm, ⟨18, _⟩ => ⟨S2048x128, .f32⟩
  | .hbm, ⟨19, _⟩ => ⟨S2048x128, .f32⟩
  | .hbm, ⟨20, _⟩ => ⟨S2048x16, .f32⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S1536x2048, .f32⟩
  | .hbm, ⟨25, _⟩ => ⟨S1x128, .f32⟩
  | .hbm, ⟨26, _⟩ => ⟨S1x128, .f32⟩
  | .hbm, ⟨27, _⟩ => ⟨S2048x128, .f32⟩
  | .hbm, ⟨28, _⟩ => ⟨S2048x128, .f32⟩
  | .hbm, ⟨29, _⟩ => ⟨S2048x2048, .f32⟩
  | .hbm, ⟨30, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x128, .f32⟩
  | .local _ .vmem, ⟨3, _⟩ => ⟨S2048x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1536, .f32⟩
  | .local _ .vmem, ⟨15, _⟩ => ⟨S256x1536, .f32⟩
  | .local _ .vmem, ⟨16, _⟩ => ⟨S1536x2048, .f32⟩
  | .local _ .vmem, ⟨17, _⟩ => ⟨S2048x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x2048, .f32⟩
  | .local _ .vmem, ⟨25, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

@[reducible] def k1_t1_loop : Scf.Loop 32 :=
  let c0_i32_47 : BitVec 32 := 0#32
  let c32_i32_48 : BitVec 32 := 32#32
  let v210 : BitVec 32 := Scalar.addi c0_i32_47 c32_i32_48
  let c1_i32_49 : BitVec 32 := 1#32
  ⟨c0_i32_47, v210, c1_i32_49⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x2048x2048 : Shape := ⟨3, ![1, 2048, 2048]⟩
abbrev S1x2048x1536 : Shape := ⟨3, ![1, 2048, 1536]⟩
abbrev S2048x32 : Shape := ⟨2, ![2048, 32]⟩
abbrev S2048x1536 : Shape := ⟨2, ![2048, 1536]⟩
abbrev S128x2048 : Shape := ⟨2, ![128, 2048]⟩
abbrev S128 : Shape := ⟨1, ![128]⟩
abbrev S16x2048 : Shape := ⟨2, ![16, 2048]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x16x32 : Shape := ⟨4, ![1, 2048, 16, 32]⟩
abbrev S1x2048x1x32 : Shape := ⟨4, ![1, 2048, 1, 32]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x1x64 : Shape := ⟨4, ![1, 2048, 1, 64]⟩
abbrev S2048x16 : Shape := ⟨2, ![2048, 16]⟩
abbrev S1x2048x16 : Shape := ⟨3, ![1, 2048, 16]⟩
abbrev S1x2048x2048x16 : Shape := ⟨4, ![1, 2048, 2048, 16]⟩
abbrev S1x2048x1024 : Shape := ⟨3, ![1, 2048, 1024]⟩
abbrev S1 : Shape := ⟨1, ![1]⟩
abbrev S1x1x1 : Shape := ⟨3, ![1, 1, 1]⟩
abbrev S2048 : Shape := ⟨1, ![2048]⟩
abbrev S1x2048x1024x1 : Shape := ⟨4, ![1, 2048, 1024, 1]⟩
abbrev S1x2048x1024x3 : Shape := ⟨4, ![1, 2048, 1024, 3]⟩

abbrev nBuf : Space → Nat
  | .hbm => 131
  | .vmem => 0
  | .smem => 0
  | _ => 0

abbrev hbmTy0_0 (i : Nat) : BufTy := match i % 128 with
  | 0 => ⟨S1x2048x2048, .f32⟩
  | 1 => ⟨S1x2048x1536, .f32⟩
  | 2 => ⟨S2048x32, .f32⟩
  | 3 => ⟨S2048x32, .f32⟩
  | 4 => ⟨S1x2048x2048, .f32⟩
  | 5 => ⟨S2048x1536, .f32⟩
  | 6 => ⟨S128x2048, .f32⟩
  | 7 => ⟨S128, .f32⟩
  | 8 => ⟨S128, .f32⟩
  | 9 => ⟨S16x2048, .f32⟩
  | 10 => ⟨S1536x2048, .f32⟩
  | 11 => ⟨S1x2048x2048, .f32⟩
  | 12 => ⟨S1x2048x16x128, .f32⟩
  | 13 => ⟨S1x2048x16x64, .f32⟩
  | 14 => ⟨S1x2048x16x64, .f32⟩
  | 15 => ⟨S1x2048x16x32, .f32⟩
  | 16 => ⟨S1x2048x16x32, .f32⟩
  | 17 => ⟨S1x2048x1x32, .f32⟩
  | 18 => ⟨S1x2048x1x32, .f32⟩
  | 19 => ⟨S1x2048x16x32, .f32⟩
  | 20 => ⟨S1x2048x16x32, .f32⟩
  | 21 => ⟨S1x2048x16x32, .f32⟩
  | 22 => ⟨S1x2048x16x32, .f32⟩
  | 23 => ⟨S1x2048x16x32, .f32⟩
  | 24 => ⟨S1x2048x16x32, .f32⟩
  | 25 => ⟨S1x2048x16x32, .f32⟩
  | 26 => ⟨S1x2048x16x32, .f32⟩
  | 27 => ⟨S1x2048x16x32, .f32⟩
  | 28 => ⟨S1x2048x16x32, .f32⟩
  | 29 => ⟨S1x2048x16x64, .f32⟩
  | 30 => ⟨S1x2048x16x128, .f32⟩
  | 31 => ⟨S2048x128, .f32⟩
  | 32 => ⟨S1x2048x128, .f32⟩
  | 33 => ⟨S_, .f32⟩
  | 34 => ⟨S1x2048, .f32⟩
  | 35 => ⟨S1x2048x1, .f32⟩
  | 36 => ⟨S_, .f32⟩
  | 37 => ⟨S1x2048x1, .f32⟩
  | 38 => ⟨S1x2048x1, .f32⟩
  | 39 => ⟨S1x2048x128, .f32⟩
  | 40 => ⟨S1x2048x128, .f32⟩
  | 41 => ⟨S1x2048x128, .f32⟩
  | 42 => ⟨S_, .f32⟩
  | 43 => ⟨S1x2048, .f32⟩
  | 44 => ⟨S1x2048x1, .f32⟩
  | 45 => ⟨S_, .f32⟩
  | 46 => ⟨S1x2048x1, .f32⟩
  | 47 => ⟨S1x2048x1, .f32⟩
  | 48 => ⟨S1x2048x128, .f32⟩
  | 49 => ⟨S1x2048x128, .f32⟩
  | 50 => ⟨S_, .f32⟩
  | 51 => ⟨S1x2048x1, .f32⟩
  | 52 => ⟨S1x2048x1, .f32⟩
  | 53 => ⟨S1x2048x1, .f32⟩
  | 54 => ⟨S1x2048x128, .f32⟩
  | 55 => ⟨S1x2048x128, .f32⟩
  | 56 => ⟨S1x1x128, .f32⟩
  | 57 => ⟨S1x2048x128, .f32⟩
  | 58 => ⟨S1x2048x128, .f32⟩
  | 59 => ⟨S1x1x128, .f32⟩
  | 60 => ⟨S1x2048x128, .f32⟩
  | 61 => ⟨S1x2048x128, .f32⟩
  | 62 => ⟨S1x2048x64, .f32⟩
  | 63 => ⟨S1x2048x64, .f32⟩
  | 64 => ⟨S1x2048x1x64, .f32⟩
  | 65 => ⟨S1x2048x1x32, .f32⟩
  | 66 => ⟨S1x2048x1x32, .f32⟩
  | 67 => ⟨S1x2048x1x32, .f32⟩
  | 68 => ⟨S1x2048x1x32, .f32⟩
  | 69 => ⟨S1x2048x1x32, .f32⟩
  | 70 => ⟨S1x2048x1x32, .f32⟩
  | 71 => ⟨S1x2048x1x32, .f32⟩
  | 72 => ⟨S1x2048x1x32, .f32⟩
  | 73 => ⟨S1x2048x1x32, .f32⟩
  | 74 => ⟨S1x2048x1x32, .f32⟩
  | 75 => ⟨S1x2048x1x64, .f32⟩
  | 76 => ⟨S1x2048x64, .f32⟩
  | 77 => ⟨S1x2048x128, .f32⟩
  | 78 => ⟨S2048x16, .f32⟩
  | 79 => ⟨S1x2048x16, .f32⟩
  | 80 => ⟨S_, .f32⟩
  | 81 => ⟨S1x2048x16, .f32⟩
  | 82 => ⟨S1x2048x16, .f32⟩
  | 83 => ⟨S_, .f32⟩
  | 84 => ⟨S1x2048x16, .f32⟩
  | 85 => ⟨S1x2048x16, .f32⟩
  | 86 => ⟨S1x2048x2048x16, .f32⟩
  | 87 => ⟨S1x2048x2048x16, .f32⟩
  | 88 => ⟨S_, .f32⟩
  | 89 => ⟨S1x2048x2048x16, .f32⟩
  | 90 => ⟨S1x2048x2048x16, .f32⟩
  | 91 => ⟨S1x2048x2048, .f32⟩
  | 92 => ⟨S1x2048x2048, .f32⟩
  | 93 => ⟨S1x2048x1024, .f32⟩
  | 94 => ⟨S1x2048x1024, .i32⟩
  | 95 => ⟨S_, .f32⟩
  | 96 => ⟨S1x2048x2048, .f32⟩
  | 97 => ⟨S1, .i32⟩
  | 98 => ⟨S1x1x1, .i32⟩
  | 99 => ⟨S2048, .i32⟩
  | 100 => ⟨S1x2048x1, .i32⟩
  | 101 => ⟨S_, .i32⟩
  | 102 => ⟨S1x1x1, .i32⟩
  | 103 => ⟨S1x1x1, .i1⟩
  | 104 => ⟨S_, .i32⟩
  | 105 => ⟨S1x1x1, .i32⟩
  | 106 => ⟨S1x1x1, .i32⟩
  | 107 => ⟨S1x1x1, .i32⟩
  | 108 => ⟨S_, .i32⟩
  | 109 => ⟨S1x2048x1, .i32⟩
  | 110 => ⟨S1x2048x1, .i1⟩
  | 111 => ⟨S_, .i32⟩
  | 112 => ⟨S1x2048x1, .i32⟩
  | 113 => ⟨S1x2048x1, .i32⟩
  | 114 => ⟨S1x2048x1, .i32⟩
  | 115 => ⟨S_, .i32⟩
  | 116 => ⟨S1x2048x1024, .i32⟩
  | 117 => ⟨S1x2048x1024, .i1⟩
  | 118 => ⟨S_, .i32⟩
  | 119 => ⟨S1x2048x1024, .i32⟩
  | 120 => ⟨S1x2048x1024, .i32⟩
  | 121 => ⟨S1x2048x1024, .i32⟩
  | 122 => ⟨S1x2048x1024, .i32⟩
  | 123 => ⟨S1x2048x1024, .i32⟩
  | 124 => ⟨S1x2048x1024x1, .i32⟩
  | 125 => ⟨S1x2048x1024x1, .i32⟩
  | 126 => ⟨S1x2048x1024x1, .i32⟩
  | 127 => ⟨S1x2048x1024x3, .i32⟩
  | _ => ⟨S1x2048x2048, .f32⟩

abbrev hbmTy0_1 (i : Nat) : BufTy := match i % 128 with
  | 0 => ⟨S_, .f32⟩
  | 1 => ⟨S1x2048x1024, .f32⟩
  | 2 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_4 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_call0_cst : Ref sig .tc := ⟨.hbm, 88, rfl⟩
abbrev main_call0_v0 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_values : Ref sig .tc := ⟨.hbm, 93, rfl⟩
abbrev main_indices : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c : Ref sig .tc := ⟨.hbm, 101, rfl⟩
abbrev main_v79 : Ref sig .tc := ⟨.hbm, 102, rfl⟩
abbrev main_v80 : Ref sig .tc := ⟨.hbm, 103, rfl⟩
abbrev main_c_7 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_8 : Ref sig .tc := ⟨.hbm, 108, rfl⟩
abbrev main_v84 : Ref sig .tc := ⟨.hbm, 109, rfl⟩
abbrev main_v85 : Ref sig .tc := ⟨.hbm, 110, rfl⟩
abbrev main_c_9 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_10 : Ref sig .tc := ⟨.hbm, 115, rfl⟩
abbrev main_v89 : Ref sig .tc := ⟨.hbm, 116, rfl⟩
abbrev main_v90 : Ref sig .tc := ⟨.hbm, 117, rfl⟩
abbrev main_c_11 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_12 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Proof.RefRun.lean ====
/-
  The reference's run: it ends with its arguments unchanged and, having no semaphore, with every counter at zero.
-/
module

public import proofs.«01_k».proof.Defs
public import proofs.«01_k».proof.Proof.Gen.ReferenceIdeal.Run
public import Idealize.ShloMosaic.Lib.Quiescent

@[expose] public section

noncomputable section

namespace Cert.Proof.RefRun

open Cert.ReferenceIdeal
open Idealize.ShloMosaic Idealize.SL.Sem

/-- The reference has no semaphore, so in any state every counter reads zero. -/
theorem counters (s : MemSt nD τ sig (Elt Ideal)) : s.sem = fun _ => 0 := sem_eq_zero_of_no_sems (by decide) s

/-- The reference runs, from any memory, and leaves its arguments and every counter as they were. -/
theorem frame : Cert.quiescent_ReferenceIdeal (hReferenceIdeal := Gen.facts) := fun m g _ =>
  (θ_run _ _ _).mono (fun r h => ⟨fun c => (h c).2, counters r.2⟩) (Value.run (F := Ideal) m g)

end Cert.Proof.RefRun
-- ==== Proof.Spec.lean ====
/-
  The scores as formulas over the extended reals: the rotary embedding of one head, the normalization of one key, the projections, and the score of one query
  against one key.
-/
module

public import Idealize.ShloMosaic.PureOps.Ideal
public import Idealize.ShloMosaic.PureOps.Ideal.Laws
public import Mathlib.Algebra.BigOperators.Group.Finset.Basic

@[expose] public section

noncomputable section

namespace Cert.Proof.Spec

open Idealize.ShloMosaic

/-- The rotary embedding of a 128-lane head: lanes 0–31 and 32–63 are the two halves of the rotated pairs, the others stay. -/
def rope (c s : Fin 32 → EReal) (x : Fin 128 → EReal) (d : Fin 128) : EReal :=
  if h : d.val < 32 then x d * c ⟨d.val, h⟩ - x ⟨d.val + 32, by omega⟩ * s ⟨d.val, h⟩
  else if h2 : d.val < 64 then x ⟨d.val - 32, by omega⟩ * s ⟨d.val - 32, by omega⟩ + x d * c ⟨d.val - 32, by omega⟩
  else x d

/-- The lane a lane is paired with, 32 lanes away. -/
def partner (d : Fin 128) : Fin 128 := if d.val < 32 then ⟨(d.val + 32) % 128, by omega⟩ else ⟨d.val - 32, by omega⟩

/-- The table of cosines over a head's 128 lanes: the cosines twice, then ones. -/
def cosTable (c : Fin 32 → EReal) (one : EReal) (d : Fin 128) : EReal :=
  if h : d.val < 32 then c ⟨d.val, h⟩ else if h2 : d.val < 64 then c ⟨d.val - 32, by omega⟩ else one

/-- The table of signed sines over a head's 128 lanes: the sines negated, the sines, then zeros. -/
def sinTable (s : Fin 32 → EReal) (zero : EReal) (d : Fin 128) : EReal :=
  if h : d.val < 32 then -s ⟨d.val, h⟩ else if h2 : d.val < 64 then s ⟨d.val - 32, by omega⟩ else zero

/-- The rotary embedding by the two tables: each lane times its cosine plus its partner times its signed sine. -/
theorem rope_tables (c s : Fin 32 → EReal) (x : Fin 128 → EReal) (d : Fin 128) :
    x d * cosTable c 1 d + x (partner d) * sinTable s 0 d = rope c s x d := by
  unfold cosTable sinTable partner rope
  by_cases h : d.val < 32
  · have e : (⟨(d.val + 32) % 128, by omega⟩ : Fin 128) = ⟨d.val + 32, by omega⟩ := Fin.ext (by show (d.val + 32) % 128 = d.val + 32; omega)
    rw [dif_pos h, dif_pos h, if_pos h, dif_pos h, e, mul_neg, sub_eq_add_neg]
  · rw [dif_neg h, dif_neg h, if_neg h, dif_neg h]
    by_cases h2 : d.val < 64
    · rw [dif_pos h2, dif_pos h2, dif_pos h2, add_comm]
    · rw [dif_neg h2, dif_neg h2, dif_neg h2, mul_one, mul_zero, add_zero]

/-- The number of lanes of a key. -/
def lanes : EReal := Ideal.ofBits .f32 0x43000000#32

/-- The mean of a key's lanes. -/
def mean (x : Fin 128 → EReal) : EReal := Ideal.div (∑ d, x d) lanes

/-- The mean squared distance of a key's lanes from their mean. -/
def var (x : Fin 128 → EReal) : EReal := Ideal.div (∑ d, (x d - mean x) * (x d - mean x)) lanes

/-- The normalization of a key: distance from the mean over the root of the variance (plus a small constant), scaled and shifted lane by lane. -/
def norm (g b : Fin 128 → EReal) (x : Fin 128 → EReal) (d : Fin 128) : EReal :=
  Ideal.div (x d - mean x) (Ideal.sqrt (var x + Ideal.ofBits .f32 0x358637BD#32)) * g d + b d

/-- Key `s`: the projection of row `s`, normalized and rotated. -/
def key (x : Fin 2048 → Fin 2048 → EReal) (c sn : Fin 2048 → Fin 32 → EReal) (wk : Fin 128 → Fin 2048 → EReal) (g b : Fin 128 → EReal) (s : Fin 2048) :
    Fin 128 → EReal :=
  rope (c s) (sn s) (norm g b fun d => ∑ k, x s k * wk d k)

/-- The lane of the stacked heads that lane `d` of head `h` is. -/
def lane (h : Fin 16) (d : Fin 128) : Fin 2048 := ⟨h.val * 128 + d.val, by omega⟩

/-- Head `h` of query `t`: the projection of row `t`, rotated. -/
def query (qr : Fin 2048 → Fin 1536 → EReal) (c sn : Fin 2048 → Fin 32 → EReal) (wq : Fin 2048 → Fin 1536 → EReal) (t : Fin 2048) (h : Fin 16) :
    Fin 128 → EReal :=
  rope (c t) (sn t) fun d => ∑ k, qr t k * wq (lane h d) k

/-- The weight of head `h` in row `t`'s scores. -/
def weight (x : Fin 2048 → Fin 2048 → EReal) (wp : Fin 16 → Fin 2048 → EReal) (t : Fin 2048) (h : Fin 16) : EReal :=
  (∑ k, x t k * wp h k) * Ideal.ofBits .f32 0x3E800000#32 * Ideal.ofBits .f32 0x3DB504F3#32

/-- The score from the parts: the weighted sum over the heads of the positive part of the head's product with the key. -/
def combine (k : Fin 128 → EReal) (q : Fin 16 → Fin 128 → EReal) (w : Fin 16 → EReal) : EReal :=
  ∑ h, max (∑ d, k d * q h d) 0 * w h

/-- The score of query `t` against key `s`. -/
def score (x : Fin 2048 → Fin 2048 → EReal) (qr : Fin 2048 → Fin 1536 → EReal) (c sn : Fin 2048 → Fin 32 → EReal)
    (wq : Fin 2048 → Fin 1536 → EReal) (wk : Fin 128 → Fin 2048 → EReal) (g b : Fin 128 → EReal) (wp : Fin 16 → Fin 2048 → EReal) (t s : Fin 2048) : EReal :=
  combine (key x c sn wk g b s) (query qr c sn wq t) (weight x wp t)

end Cert.Proof.Spec
-- ==== Proof.Rotate.lean ====
/-
  The rotary embedding as the two calls compute it: which lanes look forward, the lanes 32 places away, and the sum of the two products.
-/
module

public import proofs.«01_k».proof.Proof.Gen.KernelIdeal.Skeleton
public import proofs.«01_k».proof.Proof.Spec
public import Idealize.ShloMosaic.Lib.MatmulPlain
public import Idealize.ShloMosaic.Lib.Pipeline.Value
public import Idealize.ShloMosaic.Lib.ValueIdx

@[expose] public section

noncomputable section

namespace Cert.Proof.Rotate

open Cert.KernelIdeal Cert.KernelIdeal.Gen
open Idealize.ShloMosaic Idealize.ShloMosaic.ValueIdx

/-- The divisor of the lane numbers, as the program selects it. -/
abbrev width : BitVec 32 := Scalar.select (Scalar.cmpi .eq 128#32 0#32) 1#32 128#32

/-- Whether a lane number is below 32 within its group of 128, as the program computes it from the remainder `r`. -/
def forward (r : BitVec 32) : BitVec 1 :=
  IntOp.cmpi .slt
    (Scalar.select (IntOp.andi (IntOp.xori (IntOp.cmpi .slt r 0#32) (Scalar.cmpi .slt width 0#32)) (IntOp.cmpi .ne r 0#32)) (IntOp.addi r width) r) 32#32

/-- It is one exactly at the lanes below 32 of each group. -/
theorem forward_eq (n : Fin 2048) :
    forward (IntOp.remsi .vector (BitVec.ofNat 32 n.val) width) = if n.val % 128 < 32 then 1#1 else 0#1 := by
  revert n
  decide +kernel

/-- The lane numbers of a head. -/
theorem iota_head (r : Fin 256) (d : Fin 128) : iota .tc S256x128 32 [1] iota_S256x128_d1_w32 (ix2 r d) = BitVec.ofNat 32 d.val := by
  show BitVec.ofNat 32 (0 * 128 + d.val) = _
  rw [Nat.zero_mul, Nat.zero_add]

/-- The lane numbers of the stacked heads. -/
theorem iota_heads (r : Fin 256) (l : Fin 2048) : iota .tc S256x2048 32 [1] iota_S256x2048_d1_w32 (ix2 r l) = BitVec.ofNat 32 l.val := by
  show BitVec.ofNat 32 (0 * 2048 + l.val) = _
  rw [Nat.zero_mul, Nat.zero_add]

/-! ### One head: the keys -/

/-- The first call's rotation of a block of keys, at a lane. -/
theorem key_apply (v c s : FVec Ideal S256x128 .f32) (r : Fin 256) (d : Fin 128) :
    k0_pay1 v c s width k0_pay7 (ix2 r d) = (v (ix2 r d) * c (ix2 r d) + v (ix2 r (Spec.partner d)) * s (ix2 r d) : EReal) := by
  have hd := d.isLt
  have hf : forward (IntOp.remsi .vector (iota .tc S256x128 32 [1] iota_S256x128_d1_w32 (ix2 r d)) width) = if d.val < 32 then 1#1 else 0#1 := by
    rw [iota_head]
    refine (forward_eq ⟨d.val, by omega⟩).trans ?_
    show (if d.val % 128 < 32 then 1#1 else 0#1) = _
    rw [Nat.mod_eq_of_lt hd]
  have hsw : (if forward (IntOp.remsi .vector (iota .tc S256x128 32 [1] iota_S256x128_d1_w32 (ix2 r d)) width) = 1#1 then
      concatenate S256x128 1 [⟨S256x96, extractStridedSlice S256x96 ![0, 32] v slices_S256x128_o0_32_S256x96⟩,
        ⟨S256x32, extractStridedSlice S256x32 ![0, 0] v slices_S256x128_o0_0_S256x32⟩] concatenates_S256x96_S256x32_S256x128_d1 (ix2 r d)
      else concatenate S256x128 1 [⟨S256x32, extractStridedSlice S256x32 ![0, 96] v slices_S256x128_o0_96_S256x32⟩,
        ⟨S256x96, extractStridedSlice S256x96 ![0, 0] v slices_S256x128_o0_0_S256x96⟩] concatenates_S256x32_S256x96_S256x128_d1 (ix2 r d))
      = v (ix2 r (Spec.partner d)) := by
    rw [hf]
    unfold Spec.partner
    by_cases h : d.val < 32
    · rw [if_pos h, if_pos rfl, if_pos h]
      refine (concatenate_pair_apply_left (s₁ := S256x96) (s₂ := S256x32) (t := S256x128) 1 _ _ concatenates_S256x96_S256x32_S256x128_d1 (ix2 r d) rfl
        (ix2 r (⟨d.val, by omega⟩ : Fin 96)) (fun b => by fin_cases b <;> rfl)).trans ?_
      refine extractStridedSlice_apply _ v slices_S256x128_o0_32_S256x96 _ _ (fun a => ?_)
      fin_cases a
      · exact (Nat.zero_add _).symm
      · show (d.val + 32) % 128 = 32 + d.val
        omega
    · rw [if_neg h, if_neg (by decide), if_neg h]
      refine (concatenate_pair_apply_right (s₁ := S256x32) (s₂ := S256x96) (t := S256x128) 1 _ _ concatenates_S256x32_S256x96_S256x128_d1 (ix2 r d) rfl rfl
        (ix2 r (⟨d.val - 32, by omega⟩ : Fin 96)) (fun b hb => by fin_cases b <;> first | rfl | exact absurd rfl hb)
        (by show d.val - 32 + 32 = d.val; omega)).trans ?_
      refine extractStridedSlice_apply _ v slices_S256x128_o0_0_S256x96 _ _ (fun a => ?_)
      fin_cases a
      · exact (Nat.zero_add _).symm
      · exact (Nat.zero_add _).symm
  rw [← hsw]
  rfl

/-! ### Sixteen heads: the queries -/

/-- A table of one head's lanes, repeated for the sixteen heads. -/
def tile (x : FVec Ideal S256x128 .f32) : FVec Ideal S256x2048 .f32 :=
  concatenate S256x2048 1 (List.replicate 16 ⟨S256x128, x⟩)
    concatenates_S256x128_S256x128_S256x128_S256x128_S256x128_S256x128_S256x128_S256x128_S256x128_S256x128_S256x128_S256x128_S256x128_S256x128_S256x128_S256x128_S256x2048_d1

/-- The repeated table at a head's lane. -/
theorem tile_apply (x : FVec Ideal S256x128 .f32) (r : Fin 256) (h : Fin 16) (d : Fin 128) : tile x (ix2 r (Spec.lane h d)) = x (ix2 r d) :=
  concatenate_replicate_apply (t := S256x2048) (s₁ := S256x128) 1 16 x _ rfl (ix2 r (Spec.lane h d)) (ix2 r d)
    (by show d.val = (h.val * 128 + d.val) % 128; have := d.isLt; omega)
    (fun b hb => by fin_cases b <;> first | rfl | exact absurd rfl hb)

/-- The lanes 32 places ahead. -/
def ahead (v : FVec Ideal S256x2048 .f32) : FVec Ideal S256x2048 .f32 :=
  concatenate S256x2048 1 [⟨S256x2016, extractStridedSlice S256x2016 ![0, 32] v slices_S256x2048_o0_32_S256x2016⟩,
    ⟨S256x32, extractStridedSlice S256x32 ![0, 0] v slices_S256x2048_o0_0_S256x32⟩] concatenates_S256x2016_S256x32_S256x2048_d1

/-- The lanes 32 places behind. -/
def behind (v : FVec Ideal S256x2048 .f32) : FVec Ideal S256x2048 .f32 :=
  concatenate S256x2048 1 [⟨S256x32, extractStridedSlice S256x32 ![0, 2016] v slices_S256x2048_o0_2016_S256x32⟩,
    ⟨S256x2016, extractStridedSlice S256x2016 ![0, 0] v slices_S256x2048_o0_0_S256x2016⟩] concatenates_S256x32_S256x2016_S256x2048_d1

/-- Which lanes look ahead. -/
def ahead? : IVec S256x2048 1 := fun i => forward (remsi (iota .tc S256x2048 32 [1] iota_S256x2048_d1_w32) (broadcast S256x2048 width) i)

/-- The second call's projection of a block of queries. -/
def proj (v0 : Vec Ideal S256x1536 .f32) (v2 : Vec Ideal S1536x2048 .f32) : FVec Ideal S256x2048 .f32 :=
  matmul dot_S256x1536_S1536x2048_S256x2048_1_0_0_1_n_n none (φ₁ := .f32) (φ₂ := .f32)
    (shapeCast S256x1536 v0 shapeCasts_S256x1536_S256x1536) (shapeCast S1536x2048 v2 shapeCasts_S1536x2048_S1536x2048) (constant S256x2048 .f32 0x00000000#32)

/-- The projection at a query and a lane. -/
theorem proj_apply (v0 : Vec Ideal S256x1536 .f32) (v2 : Vec Ideal S1536x2048 .f32) (r : Fin 256) (l : Fin 2048) :
    proj v0 v2 (ix2 r l) = (∑ k : Fin 1536, v0 (ix2 r k) * v2 (ix2 k l) : EReal) := by
  refine (Ideal.matmul_plain_apply (M := 256) (K := 1536) (N := 2048) none _ _ _ r l).trans ?_
  rw [show (constant S256x2048 .f32 0x00000000#32 : FVec Ideal S256x2048 .f32) (ix2 r l) = (0 : EReal) from Ideal.ofBits_zero_f32, zero_add]
  refine Finset.sum_congr rfl fun k _ => ?_
  rw [shapeCast_apply v0 shapeCasts_S256x1536_S256x1536 (ix2 r k) (ix2 r k) rfl,
    shapeCast_apply v2 shapeCasts_S1536x2048_S1536x2048 (ix2 k l) (ix2 k l) rfl]

/-- The second call's rotation of a block of queries, in parts. -/
theorem rotation_eq (v0 : Vec Ideal S256x1536 .f32) (v2 : Vec Ideal S1536x2048 .f32) (c s : Vec Ideal S256x128 .f32) :
    k1_pay5 v0 v2 c s
      = truncf .bf16 (addf (mulf (proj v0 v2) (tile (shapeCast S256x128 c shapeCasts_S256x128_S256x128)))
          (mulf (select ahead? (ahead (proj v0 v2)) (behind (proj v0 v2))) (tile (shapeCast S256x128 s shapeCasts_S256x128_S256x128)))) bitsLt_bf16_f32 := by
  unfold k1_pay5 proj tile ahead behind ahead? forward
  rfl

/-- The selected lanes are the partners. -/
theorem swap_apply (v : FVec Ideal S256x2048 .f32) (r : Fin 256) (h : Fin 16) (d : Fin 128) :
    select ahead? (ahead v) (behind v) (ix2 r (Spec.lane h d)) = v (ix2 r (Spec.lane h (Spec.partner d))) := by
  have hd := d.isLt
  have hh := h.isLt
  have hf : ahead? (ix2 r (Spec.lane h d)) = if d.val < 32 then 1#1 else 0#1 := by
    show forward (IntOp.remsi .vector (iota .tc S256x2048 32 [1] iota_S256x2048_d1_w32 (ix2 r (Spec.lane h d))) width) = _
    rw [iota_heads]
    refine (forward_eq (Spec.lane h d)).trans ?_
    show (if (h.val * 128 + d.val) % 128 < 32 then 1#1 else 0#1) = _
    rw [show (h.val * 128 + d.val) % 128 = d.val by omega]
  show (if ahead? (ix2 r (Spec.lane h d)) = 1#1 then ahead v (ix2 r (Spec.lane h d)) else behind v (ix2 r (Spec.lane h d))) = _
  rw [hf]
  unfold Spec.partner
  by_cases h1 : d.val < 32
  · rw [if_pos h1, if_pos rfl, if_pos h1]
    refine (concatenate_pair_apply_left (s₁ := S256x2016) (s₂ := S256x32) (t := S256x2048) 1 _ _ concatenates_S256x2016_S256x32_S256x2048_d1 _ rfl
      (ix2 r (⟨h.val * 128 + d.val, by omega⟩ : Fin 2016)) (fun b => by fin_cases b <;> rfl)).trans ?_
    refine extractStridedSlice_apply _ v slices_S256x2048_o0_32_S256x2016 _ _ (fun a => ?_)
    fin_cases a
    · exact (Nat.zero_add _).symm
    · show h.val * 128 + (d.val + 32) % 128 = 32 + (h.val * 128 + d.val)
      omega
  · rw [if_neg h1, if_neg (by decide), if_neg h1]
    refine (concatenate_pair_apply_right (s₁ := S256x32) (s₂ := S256x2016) (t := S256x2048) 1 _ _ concatenates_S256x32_S256x2016_S256x2048_d1 _ rfl rfl
      (ix2 r (⟨h.val * 128 + d.val - 32, by omega⟩ : Fin 2016)) (fun b hb => by fin_cases b <;> first | rfl | exact absurd rfl hb)
      (by show h.val * 128 + d.val - 32 + 32 = h.val * 128 + d.val; omega)).trans ?_
    refine extractStridedSlice_apply _ v slices_S256x2048_o0_0_S256x2016 _ _ (fun a => ?_)
    fin_cases a
    · exact (Nat.zero_add _).symm
    · show h.val * 128 + (d.val - 32) = 0 + (h.val * 128 + d.val - 32)
      omega

/-- The second call's rotation of a block of queries, at a head and a lane. -/
theorem query_apply (v0 : Vec Ideal S256x1536 .f32) (v2 : Vec Ideal S1536x2048 .f32) (c s : Vec Ideal S256x128 .f32) (r : Fin 256) (h : Fin 16)
    (d : Fin 128) :
    k1_pay5 v0 v2 c s (ix2 r (Spec.lane h d))
      = (proj v0 v2 (ix2 r (Spec.lane h d)) * c (ix2 r d) + proj v0 v2 (ix2 r (Spec.lane h (Spec.partner d))) * s (ix2 r d) : EReal) := by
  rw [rotation_eq]
  show (proj v0 v2 (ix2 r (Spec.lane h d)) * tile (shapeCast S256x128 c shapeCasts_S256x128_S256x128) (ix2 r (Spec.lane h d))
    + select ahead? (ahead (proj v0 v2)) (behind (proj v0 v2)) (ix2 r (Spec.lane h d))
      * tile (shapeCast S256x128 s shapeCasts_S256x128_S256x128) (ix2 r (Spec.lane h d)) : EReal) = _
  rw [swap_apply, tile_apply, tile_apply, shapeCast_apply c shapeCasts_S256x128_S256x128 (ix2 r d) (ix2 r d) rfl,
    shapeCast_apply s shapeCasts_S256x128_S256x128 (ix2 r d) (ix2 r d) rfl]

end Cert.Proof.Rotate
-- ==== Proof.KeyBlock.lean ====
/-
  What the first call computes for a block of rows: the keys, projected, normalized and rotated, and the head weights.
-/
module

public import proofs.«01_k».proof.Proof.Rotate

@[expose] public section

noncomputable section

namespace Cert.Proof.KeyBlock

open Cert.KernelIdeal Cert.KernelIdeal.Gen
open Idealize.ShloMosaic Idealize.ShloMosaic.ValueIdx

/-- A block's product with a 2048 × 128 matrix. -/
def proj (x : FVec Ideal S256x2048 .f32) (w : FVec Ideal S2048x128 .f32) : FVec Ideal S256x128 .f32 :=
  matmul dot_S256x2048_S2048x128_S256x128_1_0_0_1_n_n none (k0_pay3 x) (shapeCast S2048x128 w shapeCasts_S2048x128_S2048x128)
    (constant S256x128 .f32 0x00000000#32)

/-- The product at a row and a column. -/
theorem proj_apply (x : FVec Ideal S256x2048 .f32) (w : FVec Ideal S2048x128 .f32) (r : Fin 256) (d : Fin 128) :
    proj x w (ix2 r d) = (∑ k : Fin 2048, x (ix2 r k) * w (ix2 k d) : EReal) := by
  refine (Ideal.matmul_plain_apply (M := 256) (K := 2048) (N := 128) none _ _ _ r d).trans ?_
  rw [show (constant S256x128 .f32 0x00000000#32 : FVec Ideal S256x128 .f32) (ix2 r d) = (0 : EReal) from Ideal.ofBits_zero_f32, zero_add]
  refine Finset.sum_congr rfl fun k _ => ?_
  unfold k0_pay3
  rw [shapeCast_apply x shapeCasts_S256x2048_S256x2048 (ix2 r k) (ix2 r k) rfl,
    shapeCast_apply w shapeCasts_S2048x128_S2048x128 (ix2 k d) (ix2 k d) rfl]

/-- Each row's sum over its lanes, divided by their number. -/
def avg (x : FVec Ideal S256x128 .f32) : FVec Ideal S256x1 .f32 :=
  divf (shapeCast S256x1 (multiReduction .add [1] S256 x 0x00000000#32 reduces_S256x128_S256 (.inl rfl) rfl) shapeCasts_S256_S256x1)
    (broadcast S256x1 (Scalar.ofBits .f32 0x43000000#32))

/-- The average at a row. -/
theorem avg_apply (x : FVec Ideal S256x128 .f32) (r : Fin 256) :
    avg x (ix2 r (0 : Fin 1)) = Ideal.div (∑ d : Fin 128, x (ix2 r d)) Spec.lanes := by
  refine congrArg (fun e => Ideal.div e Spec.lanes) ?_
  refine (shapeCast_apply _ shapeCasts_S256_S256x1 (ix2 r (0 : Fin 1)) (ix1 r) ?_).trans ?_
  · rw [Shape.rowMajor_val_two, Shape.rowMajor_val_one]
    show r.val = r.val * 1 + 0
    rw [Nat.mul_one, Nat.add_zero]
  refine (Ideal.multiReduction_add_single x _ reduces_S256x128_S256 (.inl rfl) rfl (ix1 r)).trans ?_
  exact Finset.sum_congr rfl fun d _ => congrArg x (funext fun a => by fin_cases a <;> rfl)

/-- A column spread over the lanes. -/
theorem spread_apply (y : FVec Ideal S256x1 .f32) (r : Fin 256) (d : Fin 128) :
    broadcastTo S256x128 y broadcasts_S256x1_S256x128 (ix2 r d) = y (ix2 r (0 : Fin 1)) :=
  broadcastTo_apply y broadcasts_S256x1_S256x128 (ix2 r d) (ix2 r (0 : Fin 1)) (fun a => by fin_cases a <;> rfl)

/-- A row spread over the block. -/
theorem row_apply (y : FVec Ideal S1x128 .f32) (r : Fin 256) (d : Fin 128) :
    broadcastTo S256x128 (shapeCast S1x128 y shapeCasts_S1x128_S1x128) broadcasts_S1x128_S256x128 (ix2 r d) = y (ix2 (0 : Fin 1) d) := by
  rw [broadcastTo_apply _ broadcasts_S1x128_S256x128 (ix2 r d) (ix2 (0 : Fin 1) d) (fun a => by fin_cases a <;> rfl)]
  exact shapeCast_apply y shapeCasts_S1x128_S1x128 _ _ rfl

/-- A block's distance from the rows' means. -/
def dist (x : FVec Ideal S256x128 .f32) : FVec Ideal S256x128 .f32 := subf x (broadcastTo S256x128 (avg x) broadcasts_S256x1_S256x128)

/-- The distance at a row and a lane. -/
theorem dist_apply (x : FVec Ideal S256x128 .f32) (r : Fin 256) (d : Fin 128) :
    dist x (ix2 r d) = (x (ix2 r d) - Spec.mean (fun d => x (ix2 r d)) : EReal) := by
  show (x (ix2 r d) - broadcastTo S256x128 (avg x) broadcasts_S256x1_S256x128 (ix2 r d) : EReal) = _
  rw [spread_apply, avg_apply]
  rfl

/-- The normalized keys of a block, in parts. -/
theorem norm_eq (x : FVec Ideal S256x2048 .f32) (w : FVec Ideal S2048x128 .f32) (g b : FVec Ideal S1x128 .f32) :
    k0_pay4 x w g b
      = addf (mulf (divf (dist (proj x w))
            (broadcastTo S256x128 (sqrt (addf (avg (mulf (dist (proj x w)) (dist (proj x w)))) (broadcast S256x1 (Scalar.ofBits .f32 0x358637BD#32))))
              broadcasts_S256x1_S256x128))
          (broadcastTo S256x128 (shapeCast S1x128 g shapeCasts_S1x128_S1x128) broadcasts_S1x128_S256x128))
        (broadcastTo S256x128 (shapeCast S1x128 b shapeCasts_S1x128_S1x128) broadcasts_S1x128_S256x128) := by
  unfold k0_pay4 dist avg proj
  rfl

/-- The normalized keys of a block, at a row and a lane. -/
theorem norm_apply (x : FVec Ideal S256x2048 .f32) (w : FVec Ideal S2048x128 .f32) (g b : FVec Ideal S1x128 .f32) (r : Fin 256) (d : Fin 128) :
    k0_pay4 (F := Ideal) x w g b (ix2 r d)
      = Spec.norm (fun d => g (ix2 (0 : Fin 1) d)) (fun d => b (ix2 (0 : Fin 1) d)) (fun d => ∑ k : Fin 2048, x (ix2 r k) * w (ix2 k d)) d := by
  have hp : (fun d => ∑ k : Fin 2048, x (ix2 r k) * w (ix2 k d) : Fin 128 → EReal) = fun d => proj x w (ix2 r d) :=
    funext fun d => (proj_apply x w r d).symm
  rw [norm_eq, hp]
  generalize proj x w = p
  have hv : avg (mulf (dist p) (dist p)) (ix2 r (0 : Fin 1)) = Spec.var (fun d => p (ix2 r d)) := by
    rw [avg_apply]
    refine congrArg (fun e => Ideal.div e Spec.lanes) (Finset.sum_congr rfl fun d _ => ?_)
    rw [← dist_apply]
    rfl
  show (Ideal.div (dist p (ix2 r d)) (broadcastTo S256x128 (sqrt (addf (avg (mulf (dist p) (dist p))) (broadcast S256x1
      (Scalar.ofBits .f32 0x358637BD#32)))) broadcasts_S256x1_S256x128 (ix2 r d))
    * broadcastTo S256x128 (shapeCast S1x128 g shapeCasts_S1x128_S1x128) broadcasts_S1x128_S256x128 (ix2 r d)
    + broadcastTo S256x128 (shapeCast S1x128 b shapeCasts_S1x128_S1x128) broadcasts_S1x128_S256x128 (ix2 r d) : EReal) = _
  rw [row_apply, row_apply, spread_apply, dist_apply]
  unfold Spec.norm
  rw [← hv]
  rfl

/-- What the first call leaves of the keys of a block: the normalized ones, rotated by the two tables. -/
def keys (x : FVec Ideal S256x2048 .f32) (w : FVec Ideal S2048x128 .f32) (c s : FVec Ideal S256x128 .f32) (g b : FVec Ideal S1x128 .f32) :
    FVec Ideal S256x128 .f32 :=
  k0_pay1 (k0_pay4 x w g b) (k0_pay5 c) (k0_pay6 s) Rotate.width k0_pay7

/-- The keys of a block, at a row and a lane. -/
theorem keys_apply (x : FVec Ideal S256x2048 .f32) (w : FVec Ideal S2048x128 .f32) (c s : FVec Ideal S256x128 .f32) (g b : FVec Ideal S1x128 .f32)
    (r : Fin 256) (d : Fin 128) :
    keys x w c s g b (ix2 r d)
      = (Spec.norm (fun d => g (ix2 (0 : Fin 1) d)) (fun d => b (ix2 (0 : Fin 1) d)) (fun d => ∑ k : Fin 2048, x (ix2 r k) * w (ix2 k d)) d * c (ix2 r d)
        + Spec.norm (fun d => g (ix2 (0 : Fin 1) d)) (fun d => b (ix2 (0 : Fin 1) d)) (fun d => ∑ k : Fin 2048, x (ix2 r k) * w (ix2 k d))
            (Spec.partner d) * s (ix2 r d) : EReal) := by
  unfold keys
  rw [Rotate.key_apply, norm_apply, norm_apply]
  unfold k0_pay5 k0_pay6
  rw [shapeCast_apply c shapeCasts_S256x128_S256x128 (ix2 r d) (ix2 r d) rfl, shapeCast_apply s shapeCasts_S256x128_S256x128 (ix2 r d) (ix2 r d) rfl]

/-- The head weights of a block, at a row and a column. -/
theorem weights_apply (x : FVec Ideal S256x2048 .f32) (w : FVec Ideal S2048x128 .f32) (r : Fin 256) (d : Fin 128) :
    k0_pay2 (k0_pay3 x) w (ix2 r d)
      = ((∑ k : Fin 2048, x (ix2 r k) * w (ix2 k d)) * Ideal.ofBits .f32 0x3E800000#32 * Ideal.ofBits .f32 0x3DB504F3#32 : EReal) := by
  rw [← proj_apply]
  rfl

end Cert.Proof.KeyBlock
-- ==== Proof.Region0.lean ====
/-
  What the first call leaves in its two output arrays: each row's key and each row's weights, from the arrays it reads.
-/
module

public import proofs.«01_k».proof.Proof.KeyBlock
public import proofs.«01_k».proof.Proof.Gen.KernelIdeal.Frame
public import Idealize.ShloMosaic.Lib.Pipeline.ValueKit

@[expose] public section

noncomputable section

namespace Cert.Proof.Region0

open Cert.KernelIdeal Cert.KernelIdeal.Gen
open Idealize.ShloMosaic Idealize.ShloMosaic.ValueIdx Idealize.ShloMosaic.TcCoe Idealize.SL.Sem Idealize.ShloMosaic.Pipeline

variable (V : (c : Dev nD) → (b : Ref sig .tc) → Buf (Elt Ideal) ((c : Thread nD τ).loc b)) (c : Dev nD)

/-- Every window's block index at an iteration. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

/-- Row `r` of block `t`. -/
def row (t : Fin cfg0.N) (r : Fin 256) : Fin 2048 := ⟨t.val * 256 + r.val, by have h : t.val < 8 := t.isLt; omega⟩

/-- The tokens' block. -/
theorem block0 (t : Fin cfg0.N) (r : Fin 256) (k : Fin 2048) :
    iblk0 V c 0 t (ValueIdx.ix2 r k) = (V c main_v0 : FVec Ideal S2048x2048 .f32) (ValueIdx.ix2 (row t r) k) := by
  blk_ext [iblk0, idx t, row]

/-- The keys' projection is one block. -/
theorem block1 (t : Fin cfg0.N) : iblk0 V c 1 t = (V c main_v7 : FVec Ideal S2048x128 .f32) := by
  blk_ext! [iblk0, idx t]

/-- The weights' projection is one block. -/
theorem block2 (t : Fin cfg0.N) : iblk0 V c 2 t = (V c main_v9 : FVec Ideal S2048x128 .f32) := by
  blk_ext! [iblk0, idx t]

/-- The cosines' block. -/
theorem block3 (t : Fin cfg0.N) (r : Fin 256) (d : Fin 128) :
    iblk0 V c 3 t (ValueIdx.ix2 r d) = (V c main_v4 : FVec Ideal S2048x128 .f32) (ValueIdx.ix2 (row t r) d) := by
  blk_ext [iblk0, idx t, row]

/-- The signed sines' block. -/
theorem block4 (t : Fin cfg0.N) (r : Fin 256) (d : Fin 128) :
    iblk0 V c 4 t (ValueIdx.ix2 r d) = (V c main_v6 : FVec Ideal S2048x128 .f32) (ValueIdx.ix2 (row t r) d) := by
  blk_ext [iblk0, idx t, row]

/-- The scale is one block. -/
theorem block5 (t : Fin cfg0.N) : iblk0 V c 5 t = (V c main_v11 : FVec Ideal S1x128 .f32) := by
  blk_ext! [iblk0, idx t]

/-- The shift is one block. -/
theorem block6 (t : Fin cfg0.N) : iblk0 V c 6 t = (V c main_v12 : FVec Ideal S1x128 .f32) := by
  blk_ext! [iblk0, idx t]

/-- The token rows the call reads. -/
abbrev tokens : FVec Ideal S2048x2048 .f32 := V c main_v0
/-- The keys' projection the call reads. -/
abbrev wk : FVec Ideal S2048x128 .f32 := V c main_v7
/-- The weights' projection the call reads. -/
abbrev wp : FVec Ideal S2048x128 .f32 := V c main_v9
/-- The table of cosines the call reads. -/
abbrev cosines : FVec Ideal S2048x128 .f32 := V c main_v4
/-- The table of signed sines the call reads. -/
abbrev sines : FVec Ideal S2048x128 .f32 := V c main_v6
/-- The normalization's scale the call reads. -/
abbrev scale : FVec Ideal S1x128 .f32 := V c main_v11
/-- The normalization's shift the call reads. -/
abbrev shift : FVec Ideal S1x128 .f32 := V c main_v12

/-- The normalized projection of a row. -/
def normed (r : Fin 2048) (d : Fin 128) : EReal :=
  Spec.norm (fun d => scale V c (ValueIdx.ix2 (0 : Fin 1) d)) (fun d => shift V c (ValueIdx.ix2 (0 : Fin 1) d))
    (fun d => ∑ k : Fin 2048, tokens V c (ValueIdx.ix2 r k) * wk V c (ValueIdx.ix2 k d)) d

/-- The key of a row: its normalized projection rotated by the tables. -/
def keyAt (r : Fin 2048) (d : Fin 128) : EReal :=
  normed V c r d * cosines V c (ValueIdx.ix2 r d) + normed V c r (Spec.partner d) * sines V c (ValueIdx.ix2 r d)

/-- The weights of a row. -/
def weightAt (r : Fin 2048) (d : Fin 128) : EReal :=
  (∑ k : Fin 2048, tokens V c (ValueIdx.ix2 r k) * wp V c (ValueIdx.ix2 k d)) * Ideal.ofBits .f32 0x3E800000#32 * Ideal.ofBits .f32 0x3DB504F3#32

/-- An offset of zeros. -/
theorem zeros : (![0, 0] : Fin 2 → ℕ) = fun _ => 0 := funext fun a => by fin_cases a <;> rfl

/-- The keys' output block is the block of keys. -/
theorem out7_eq (x0 : Vec Ideal S256x2048 .f32) (x1 x2 : Vec Ideal S2048x128 .f32) (x3 x4 : Vec Ideal S256x128 .f32) (x5 x6 : Vec Ideal S1x128 .f32) :
    out0_7 x0 x1 x2 x3 x4 x5 x6 = KeyBlock.keys x0 x1 x3 x4 x5 x6 := by
  unfold out0_7
  rw [View.canon_unit_zero zeros]
  simp only [View.ld_unit_zero (S := S256x2048) zeros, View.ld_unit_zero (S := S2048x128) zeros, View.ld_unit_zero (S := S256x128) zeros, View.ld_unit_zero (S := S1x128) zeros]
  rfl

/-- The weights' output block is the block of weights. -/
theorem out8_eq (x0 : Vec Ideal S256x2048 .f32) (x1 x2 : Vec Ideal S2048x128 .f32) (x3 x4 : Vec Ideal S256x128 .f32) (x5 x6 : Vec Ideal S1x128 .f32) :
    out0_8 x0 x1 x2 x3 x4 x5 x6 = k0_pay2 (F := Ideal) (k0_pay3 (F := Ideal) x0) x2 := by
  unfold out0_8
  rw [View.canon_unit_zero zeros]
  simp only [View.ld_unit_zero (S := S256x2048) zeros, View.ld_unit_zero (S := S2048x128) zeros]

/-- The row and lane at which a block of 256 rows of 128 places one of its elements. -/
theorem placed7 (t : Fin cfg0.N) (r : Fin 256) (d : Fin 128) :
    (((cfg0.win 7).blk t).view.emb (ValueIdx.ix2 r d) : S2048x128.Idx) = ValueIdx.ix2 (row t r) d := by
  blk_ext [idx t, row]

/-- The same for the weights' blocks. -/
theorem placed8 (t : Fin cfg0.N) (r : Fin 256) (d : Fin 128) :
    (((cfg0.win 8).blk t).view.emb (ValueIdx.ix2 r d) : S2048x128.Idx) = ValueIdx.ix2 (row t r) d := by
  blk_ext [idx t, row]

/-- The keys' array after the call. -/
theorem arr7 : (dat0 V c).arrAt 7 cfg0.N = fun i : S2048x128.Idx => keyAt V c (i 0) (i 1) := by
  refine (dat0 V c).arrAt_eq_of_covers 7 _ (by decide +kernel) fun t hf y => ?_
  blk_simp
  rw [after0_7, out7_eq]
  obtain ⟨r, d, rfl⟩ : ∃ (r : Fin 256) (d : Fin 128), y = ValueIdx.ix2 r d := ⟨y 0, y 1, funext fun a => by fin_cases a <;> rfl⟩
  rw [KeyBlock.keys_apply, block1, block3, block4, block5, block6]
  simp only [block0]
  exact (congrArg (fun i : S2048x128.Idx => keyAt V c (i 0) (i 1)) (placed7 t r d)).symm

/-- The weights' array after the call. -/
theorem arr8 : (dat0 V c).arrAt 8 cfg0.N = fun i : S2048x128.Idx => weightAt V c (i 0) (i 1) := by
  refine (dat0 V c).arrAt_eq_of_covers 8 _ (by decide +kernel) fun t hf y => ?_
  blk_simp
  rw [after0_8, out8_eq]
  obtain ⟨r, d, rfl⟩ : ∃ (r : Fin 256) (d : Fin 128), y = ValueIdx.ix2 r d := ⟨y 0, y 1, funext fun a => by fin_cases a <;> rfl⟩
  rw [KeyBlock.weights_apply, block2]
  simp only [block0]
  exact (congrArg (fun i : S2048x128.Idx => weightAt V c (i 0) (i 1)) (placed8 t r d)).symm

end Cert.Proof.Region0
-- ==== Proof.Heads.lean ====
/-
  The scores of a block of queries as the second call computes them: sixteen heads, each the positive part of its product with the keys times its weight,
  added one after the other.
-/
module

public import proofs.«01_k».proof.Proof.Gen.KernelIdeal.Skeleton
public import proofs.«01_k».proof.Proof.Spec
public import Idealize.ShloMosaic.Lib.MatmulPlain
public import Idealize.ShloMosaic.Lib.Pipeline.Value
public import Idealize.ShloMosaic.Lib.ValueIdx

@[expose] public section

noncomputable section

namespace Cert.Proof.Heads

open Cert.KernelIdeal Cert.KernelIdeal.Gen
open Idealize.ShloMosaic Idealize.ShloMosaic.ValueIdx

/-- The lanes of head `h` lie inside the stacked heads. -/
theorem slices_head (h : Fin 16) : S256x2048.Slices ![0, h.val * 128] S256x128 := by
  revert h; decide

/-- The weight of head `h` is one of the 128 columns. -/
theorem slices_weight (h : Fin 16) : S256x128.Slices ![0, h.val] S256x1 := by
  revert h; decide

/-- What head `h` adds to a block's scores. -/
def part (q : FVec Ideal S256x2048 .bf16) (k : FVec Ideal S2048x128 .bf16) (w : FVec Ideal S256x128 .f32) (h : Fin 16) : FVec Ideal S256x2048 .f32 :=
  mulf
    (extf .f32 (truncf .bf16 (maximumf
      (matmul dot_S256x128_S2048x128_S256x2048_1_1_0_0_n_n none (extractStridedSlice S256x128 ![0, h.val * 128] q (slices_head h)) k
        (constant S256x2048 .f32 0x00000000#32))
      (broadcast S256x2048 (Scalar.ofBits .f32 0x00000000#32))) bitsLt_bf16_f32) bitsLt_bf16_f32)
    (broadcastTo S256x2048 (extractStridedSlice S256x1 ![0, h.val] w (slices_weight h)) broadcasts_S256x1_S256x2048)

/-- A head's part at a query and a key. -/
theorem part_apply (q : FVec Ideal S256x2048 .bf16) (k : FVec Ideal S2048x128 .bf16) (w : FVec Ideal S256x128 .f32) (h : Fin 16) (r : Fin 256)
    (s : Fin 2048) :
    part q k w h (ix2 r s)
      = (max (∑ d : Fin 128, k (ix2 s d) * q (ix2 r (Spec.lane h d))) 0 * w (ix2 r (⟨h.val, by omega⟩ : Fin 128)) : EReal) := by
  have hb : broadcastTo S256x2048 (extractStridedSlice S256x1 ![0, h.val] w (slices_weight h)) broadcasts_S256x1_S256x2048 (ix2 r s)
      = w (ix2 r (⟨h.val, by omega⟩ : Fin 128)) := by
    rw [broadcastTo_apply _ broadcasts_S256x1_S256x2048 (ix2 r s) (ix2 r (0 : Fin 1)) (fun a => by fin_cases a <;> rfl)]
    exact extractStridedSlice_apply _ w (slices_weight h) _ _ (fun a => by fin_cases a <;> first | rfl | exact (Nat.zero_add _).symm)
  have hm : matmul dot_S256x128_S2048x128_S256x2048_1_1_0_0_n_n none (extractStridedSlice S256x128 ![0, h.val * 128] q (slices_head h)) k
      (constant S256x2048 .f32 0x00000000#32) (ix2 r s) = (∑ d : Fin 128, k (ix2 s d) * q (ix2 r (Spec.lane h d)) : EReal) := by
    refine (Ideal.matmul_transposedRhs_apply (M := 256) (K := 128) (N := 2048) none _ k _ r s).trans ?_
    rw [show (constant S256x2048 .f32 0x00000000#32 : FVec Ideal S256x2048 .f32) (ix2 r s) = (0 : EReal) from Ideal.ofBits_zero_f32, zero_add]
    refine Finset.sum_congr rfl fun d _ => ?_
    rw [extractStridedSlice_apply _ q (slices_head h) (ix2 r d) (ix2 r (Spec.lane h d))
      (fun a => by fin_cases a <;> first | rfl | exact (Nat.zero_add _).symm)]
    exact mul_comm _ _
  unfold part
  show (max (matmul dot_S256x128_S2048x128_S256x2048_1_1_0_0_n_n none (extractStridedSlice S256x128 ![0, h.val * 128] q (slices_head h)) k
      (constant S256x2048 .f32 0x00000000#32) (ix2 r s)) (Ideal.ofBits .f32 0x00000000#32)
      * broadcastTo S256x2048 (extractStridedSlice S256x1 ![0, h.val] w (slices_weight h)) broadcasts_S256x1_S256x2048 (ix2 r s) : EReal) = _
  rw [hm, hb, Ideal.ofBits_zero_f32]

/-- The scores of a block: its queries, the keys, and the weights, as the body adds them up. -/
def acc (q : FVec Ideal S256x2048 .bf16) (v41 : Vec Ideal S2048x128 .f32) (v44 : Vec Ideal S256x128 .f32) : FVec Ideal S256x2048 .f32 :=
  k1_pay1 q (k1_pay6 v41) (k1_pay7 v44)
    (k1_pay12 q (k1_pay6 v41) (k1_pay7 v44) (k1_pay10 q (k1_pay6 v41) (k1_pay7 v44) (k1_pay8 q v41 v44) (k1_pay9 q)) (k1_pay11 q)) (k1_pay13 q)

/-- The first four heads. -/
theorem first (q : FVec Ideal S256x2048 .bf16) (v41 : Vec Ideal S2048x128 .f32) (v44 : Vec Ideal S256x128 .f32) :
    k1_pay8 q v41 v44 = addf (addf (addf (addf (broadcast S256x2048 (Scalar.ofBits .f32 0x00000000#32)) (part q (k1_pay6 v41) (k1_pay7 v44) 0))
      (part q (k1_pay6 v41) (k1_pay7 v44) 1)) (part q (k1_pay6 v41) (k1_pay7 v44) 2)) (part q (k1_pay6 v41) (k1_pay7 v44) 3) := rfl

/-- Heads four to eight. -/
theorem second (q : FVec Ideal S256x2048 .bf16) (k : FVec Ideal S2048x128 .bf16) (w : FVec Ideal S256x128 .f32) (a : FVec Ideal S256x2048 .f32) :
    k1_pay10 q k w a (k1_pay9 q) = addf (addf (addf (addf (addf a (part q k w 4)) (part q k w 5)) (part q k w 6)) (part q k w 7)) (part q k w 8) := rfl

/-- Heads nine to thirteen. -/
theorem third (q : FVec Ideal S256x2048 .bf16) (k : FVec Ideal S2048x128 .bf16) (w : FVec Ideal S256x128 .f32) (a : FVec Ideal S256x2048 .f32) :
    k1_pay12 q k w a (k1_pay11 q) = addf (addf (addf (addf (addf a (part q k w 9)) (part q k w 10)) (part q k w 11)) (part q k w 12)) (part q k w 13) := rfl

/-- The last two heads. -/
theorem fourth (q : FVec Ideal S256x2048 .bf16) (k : FVec Ideal S2048x128 .bf16) (w : FVec Ideal S256x128 .f32) (a : FVec Ideal S256x2048 .f32) :
    k1_pay1 q k w a (k1_pay13 q) = addf (addf a (part q k w 14)) (part q k w 15) := rfl

/-- The keys and the weights pass through the casts unchanged. -/
theorem casts (v41 : Vec Ideal S2048x128 .f32) (v44 : Vec Ideal S256x128 .f32) :
    (k1_pay6 v41 : S2048x128.Idx → EReal) = v41 ∧ (k1_pay7 v44 : S256x128.Idx → EReal) = v44 := by
  constructor
  · funext i
    exact shapeCast_apply v41 shapeCasts_S2048x128_S2048x128 i i rfl
  · funext i
    exact shapeCast_apply v44 shapeCasts_S256x128_S256x128 i i rfl

/-- A block's scores, read at a query and a key. -/
theorem acc_apply (q : FVec Ideal S256x2048 .bf16) (v41 : Vec Ideal S2048x128 .f32) (v44 : Vec Ideal S256x128 .f32) (r : Fin 256) (s : Fin 2048) :
    acc q v41 v44 (ix2 r s)
      = Spec.combine (fun d => v41 (ix2 s d)) (fun h d => q (ix2 r (Spec.lane h d))) (fun h => v44 (ix2 r (⟨h.val, by omega⟩ : Fin 128))) := by
  have e : acc q v41 v44 (ix2 r s) = (∑ h : Fin 16, part q (k1_pay6 v41) (k1_pay7 v44) h (ix2 r s) : EReal) := by
    unfold acc
    rw [first, second, third, fourth]
    generalize part q (k1_pay6 v41) (k1_pay7 v44) = p
    simp only [Fin.sum_univ_castSucc, Finset.univ_eq_empty, Finset.sum_empty]
    show (Ideal.ofBits .f32 0x00000000#32 + _ + _ + _ + _ + _ + _ + _ + _ + _ + _ + _ + _ + _ + _ + _ + _ : EReal) = _
    rw [Ideal.ofBits_zero_f32]
    rfl
  rw [e]
  unfold Spec.combine
  refine Finset.sum_congr rfl fun h _ => ?_
  rw [part_apply, (casts v41 v44).1, (casts v41 v44).2]

end Cert.Proof.Heads
-- ==== Proof.Keys.lean ====
/-
  The float32 grid read through sortable keys: a key is a natural number below 2^32, the pattern it stands for is the key with its top bit flipped
  when that bit is set, and the complement of the key below it. `magReal` is the value of a finite pattern without its sign, `keyVal` the value of a key.
-/
module

public import Idealize.ShloMosaic.PureOps.Ideal
public import Mathlib.Data.EReal.Operations
public import Mathlib.Tactic.Positivity
public import Mathlib.Tactic.NormNum
public import Mathlib.Tactic.Linarith
public import Mathlib.Tactic.Ring

@[expose] public section

noncomputable section

namespace Cert.Proof.Keys

open Idealize.ShloMosaic

/-! ### Magnitudes -/

/-- The power of two that one unit in the last place of magnitude word `m` is worth. -/
def ulp (m : ℕ) : ℝ := (2 : ℝ) ^ ((max (m / 2 ^ 23) 1 : ℕ) - 150 : ℤ)

/-- The number the magnitude word `m` (exponent field, then 23 fraction bits) denotes. -/
def magReal (m : ℕ) : ℝ :=
  if m / 2 ^ 23 = 0 then ((m % 2 ^ 23 : ℕ) : ℝ) * (2 : ℝ) ^ (-149 : ℤ)
  else ((2 ^ 23 + m % 2 ^ 23 : ℕ) : ℝ) * (2 : ℝ) ^ ((m / 2 ^ 23 : ℕ) - 150 : ℤ)

theorem ulp_pos (m : ℕ) : 0 < ulp m := by unfold ulp; positivity

theorem magReal_nonneg (m : ℕ) : 0 ≤ magReal m := by
  unfold magReal; split <;> positivity

/-- The next magnitude word is one unit in the last place further. -/
theorem magReal_succ (m : ℕ) : magReal (m + 1) = magReal m + ulp m := by
  have hd := Nat.div_add_mod m (2 ^ 23)
  have hlt := Nat.mod_lt m (show 0 < 2 ^ 23 by norm_num)
  by_cases hc : m % 2 ^ 23 + 1 = 2 ^ 23
  · have h1 : (m + 1) / 2 ^ 23 = m / 2 ^ 23 + 1 := by omega
    have h2 : (m + 1) % 2 ^ 23 = 0 := by omega
    have h3 : m % 2 ^ 23 = 2 ^ 23 - 1 := by omega
    unfold magReal ulp
    rw [h1, h2, h3, if_neg (Nat.succ_ne_zero _)]
    by_cases h0 : m / 2 ^ 23 = 0
    · rw [if_pos h0, h0]; norm_num
    · rw [if_neg h0, max_eq_left (by omega : 1 ≤ m / 2 ^ 23)]
      have e : ((m / 2 ^ 23 + 1 : ℕ) - 150 : ℤ) = ((m / 2 ^ 23 : ℕ) - 150 : ℤ) + 1 := by push_cast; ring
      rw [e, zpow_add₀ (by norm_num : (2 : ℝ) ≠ 0)]
      norm_num
      ring
  · have h1 : (m + 1) / 2 ^ 23 = m / 2 ^ 23 := by omega
    have h2 : (m + 1) % 2 ^ 23 = m % 2 ^ 23 + 1 := by omega
    unfold magReal ulp
    rw [h1, h2]
    by_cases h0 : m / 2 ^ 23 = 0
    · rw [if_pos h0, if_pos h0, h0]; push_cast; norm_num; ring
    · rw [if_neg h0, if_neg h0, max_eq_left (by omega : 1 ≤ m / 2 ^ 23)]
      push_cast; ring

theorem magReal_mono : Monotone magReal :=
  monotone_nat_of_le_succ fun m => by rw [magReal_succ]; linarith [ulp_pos m]

/-- One unit in the last place is at most the larger of the smallest unit and a 2^-23 part of the magnitude. -/
theorem ulp_le (m : ℕ) : ulp m ≤ max ((2 : ℝ) ^ (-149 : ℤ)) (magReal m * (2 : ℝ) ^ (-23 : ℤ)) := by
  unfold ulp magReal
  by_cases h0 : m / 2 ^ 23 = 0
  · refine le_max_of_le_left ?_
    rw [h0]; norm_num
  · refine le_max_of_le_right ?_
    rw [if_neg h0, max_eq_left (by omega : 1 ≤ m / 2 ^ 23)]
    have hp : (0 : ℝ) < (2 : ℝ) ^ ((m / 2 ^ 23 : ℕ) - 150 : ℤ) := by positivity
    have h1 : (1 : ℝ) ≤ ((2 ^ 23 + m % 2 ^ 23 : ℕ) : ℝ) * (2 : ℝ) ^ (-23 : ℤ) := by
      have : ((2 ^ 23 : ℕ) : ℝ) ≤ ((2 ^ 23 + m % 2 ^ 23 : ℕ) : ℝ) := by exact_mod_cast Nat.le_add_right _ _
      have e : (1 : ℝ) = ((2 ^ 23 : ℕ) : ℝ) * (2 : ℝ) ^ (-23 : ℤ) := by norm_num
      calc (1 : ℝ) = _ := e
        _ ≤ _ := mul_le_mul_of_nonneg_right this (by positivity)
    calc (2 : ℝ) ^ ((m / 2 ^ 23 : ℕ) - 150 : ℤ) = 1 * (2 : ℝ) ^ ((m / 2 ^ 23 : ℕ) - 150 : ℤ) := (one_mul _).symm
      _ ≤ (((2 ^ 23 + m % 2 ^ 23 : ℕ) : ℝ) * (2 : ℝ) ^ (-23 : ℤ)) * (2 : ℝ) ^ ((m / 2 ^ 23 : ℕ) - 150 : ℤ) :=
        mul_le_mul_of_nonneg_right h1 hp.le
      _ = _ := by ring

theorem magReal_zero : magReal 0 = 0 := by unfold magReal; norm_num

/-- The magnitude word of 2^126, well inside the finite words. -/
theorem magReal_big : magReal (253 * 2 ^ 23) = (2 : ℝ) ^ (126 : ℕ) := by
  unfold magReal; norm_num

/-- Between two neighbouring words: every number in `[0, 2^126]` has a word at or below it with the next word above it. -/
theorem exists_floor (v : ℝ) (h0 : 0 ≤ v) (h1 : v ≤ (2 : ℝ) ^ (126 : ℕ)) :
    ∃ m, m ≤ 253 * 2 ^ 23 ∧ magReal m ≤ v ∧ v < magReal (m + 1) := by
  classical
  have hex : ∃ n, v < magReal n := ⟨253 * 2 ^ 23 + 1, by
    rw [magReal_succ, magReal_big]; linarith [ulp_pos (253 * 2 ^ 23)]⟩
  have hs := Nat.find_spec hex
  have hm := fun n h => Nat.find_min hex (m := n) h
  generalize hn : Nat.find hex = n at hs hm
  cases n with
  | zero => rw [magReal_zero] at hs; linarith
  | succ k =>
    refine ⟨k, ?_, not_lt.1 (hm k (Nat.lt_succ_self k)), hs⟩
    by_contra hk
    refine hm (253 * 2 ^ 23 + 1) (by omega) ?_
    rw [magReal_succ, magReal_big]; linarith [ulp_pos (253 * 2 ^ 23)]

/-! ### Keys -/

/-- The magnitude word of the infinities. -/
abbrev infWord : ℕ := 255 * 2 ^ 23

/-- The extended real of a magnitude word: its number, and the top beyond the finite words. -/
def mag (m : ℕ) : EReal := if m < infWord then (magReal m : EReal) else ⊤

theorem mag_mono : Monotone mag := fun a b h => by
  unfold mag
  by_cases hb : b < infWord
  · rw [if_pos hb, if_pos (lt_of_le_of_lt h hb)]; exact_mod_cast magReal_mono h
  · rw [if_neg hb]; exact le_top

theorem mag_nonneg (m : ℕ) : 0 ≤ mag m := by
  unfold mag; split
  · exact_mod_cast magReal_nonneg m
  · exact le_top

/-- The key of positive infinity. -/
abbrev infKey : ℕ := 2 ^ 31 + infWord

/-- The value of a key up to that of positive infinity: negative numbers below 2^31, in falling magnitude, then the others. -/
def keyVal (u : ℕ) : EReal := if u < 2 ^ 31 then -mag (2 ^ 31 - 1 - u) else mag (u - 2 ^ 31)

/-- Greater keys have greater values. -/
theorem keyVal_mono : Monotone keyVal := fun a b h => by
  unfold keyVal
  by_cases hb : b < 2 ^ 31
  · rw [if_pos hb, if_pos (lt_of_le_of_lt h hb), EReal.neg_le_neg_iff]
    exact mag_mono (by omega)
  · rw [if_neg hb]
    by_cases ha : a < 2 ^ 31
    · rw [if_pos ha]
      exact le_trans (EReal.neg_le_of_neg_le (by rw [neg_zero]; exact mag_nonneg _)) (mag_nonneg _)
    · rw [if_neg ha]; exact mag_mono (by omega)

theorem keyVal_zero : keyVal 0 = ⊥ := by
  unfold keyVal mag
  rw [if_pos (by norm_num), if_neg (by norm_num), EReal.neg_top]

theorem keyVal_infKey : keyVal infKey = ⊤ := by
  unfold keyVal mag
  rw [if_neg (by norm_num), if_neg (by norm_num)]

/-- A number of magnitude at most 2^126 has a finite key at or below it, nearer than one of the two spacings. -/
theorem exists_key (v : ℝ) (h : |v| ≤ (2 : ℝ) ^ (126 : ℕ)) :
    ∃ u r, u < infKey ∧ keyVal u = (r : ℝ) ∧ r ≤ v ∧ v - r < max ((2 : ℝ) ^ (-149 : ℤ)) (|v| * (2 : ℝ) ^ (-23 : ℤ)) := by
  by_cases hv : 0 ≤ v
  · rw [abs_of_nonneg hv] at h ⊢
    obtain ⟨m, hm, h1, h2⟩ := exists_floor v hv h
    refine ⟨2 ^ 31 + m, magReal m, by simp only [infKey, infWord]; omega, ?_, h1, ?_⟩
    · unfold keyVal mag
      rw [if_neg (by omega), Nat.add_sub_cancel_left, if_pos (by simp only [infWord]; omega)]
    · rw [magReal_succ] at h2
      refine lt_of_lt_of_le (by linarith) (le_trans (ulp_le m) (max_le_max le_rfl ?_))
      exact mul_le_mul_of_nonneg_right h1 (by positivity)
  · rw [abs_of_neg (not_le.1 hv)] at h ⊢
    obtain ⟨m, hm, h1, h2⟩ := exists_floor (-v) (by linarith) h
    have hkey : ∀ m, m ≤ 253 * 2 ^ 23 + 1 → keyVal (2 ^ 31 - 1 - m) = ((-magReal m : ℝ) : EReal) := fun m hm => by
      unfold keyVal mag
      rw [if_pos (by omega), if_pos (by simp only [infWord]; omega), EReal.coe_neg,
        show 2 ^ 31 - 1 - (2 ^ 31 - 1 - m) = m by omega]
    by_cases he : magReal m = -v
    · refine ⟨2 ^ 31 - 1 - m, -magReal m, by simp only [infKey, infWord]; omega, hkey m (by omega), by linarith, ?_⟩
      rw [he, neg_neg, sub_self]
      exact lt_max_of_lt_left (by positivity)
    · have h3 : magReal m < -v := lt_of_le_of_ne h1 he
      refine ⟨2 ^ 31 - 1 - (m + 1), -magReal (m + 1), by simp only [infKey, infWord]; omega, hkey (m + 1) (by omega), by linarith, ?_⟩
      rw [magReal_succ]
      refine lt_of_lt_of_le (by linarith : v - -(magReal m + ulp m) < ulp m) (le_trans (ulp_le m) (max_le_max le_rfl ?_))
      exact mul_le_mul_of_nonneg_right h1 (by positivity)

/-! ### Patterns -/

/-- A pattern with its sign clear, up to that of positive infinity, denotes its magnitude. -/
theorem ieee_pos (b : BitVec 32) (h : b.toNat ≤ infWord) : Ideal.ieee 8 23 b = mag b.toNat := by
  have hn : (b.extractLsb' (8 + 23) 1 == 1#1) = false := by
    rw [beq_eq_false_iff_ne, Ne, ← BitVec.toNat_inj, BitVec.extractLsb'_toNat, Nat.shiftRight_eq_div_pow]
    simp only [infWord] at h
    simp only [BitVec.toNat_ofNat]
    omega
  have hx : (b.extractLsb' 23 8).toNat = b.toNat / 2 ^ 23 := by
    rw [BitVec.extractLsb'_toNat, Nat.shiftRight_eq_div_pow]
    simp only [infWord] at h
    omega
  have hf : (b.extractLsb' 0 23).toNat = b.toNat % 2 ^ 23 := by
    rw [BitVec.extractLsb'_toNat, Nat.shiftRight_zero]
  unfold Ideal.ieee
  simp only [hn, hx, hf]
  unfold mag magReal
  by_cases he : b.toNat < infWord
  · rw [if_pos he, if_neg (by simp only [infWord] at he; omega)]
    by_cases h0 : b.toNat / 2 ^ 23 = 0
    · rw [if_pos h0, if_pos h0]; norm_num
    · rw [if_neg h0, if_neg h0]
      simp only [Bool.false_eq_true, if_false, one_mul]
      congr 3
      push_cast; ring
  · have : b.toNat = infWord := le_antisymm h (not_lt.1 he)
    rw [if_neg he, this]
    norm_num [infWord]

/-- A pattern with its sign set denotes minus its magnitude, the not-a-numbers among them the bottom. -/
theorem ieee_neg (b : BitVec 32) (h : 2 ^ 31 ≤ b.toNat) : Ideal.ieee 8 23 b = -mag (b.toNat - 2 ^ 31) := by
  have hb := b.isLt
  have hn : (b.extractLsb' (8 + 23) 1 == 1#1) = true := by
    rw [beq_iff_eq, ← BitVec.toNat_inj, BitVec.extractLsb'_toNat, Nat.shiftRight_eq_div_pow]
    simp only [BitVec.toNat_ofNat]
    omega
  have hx : (b.extractLsb' 23 8).toNat = (b.toNat - 2 ^ 31) / 2 ^ 23 := by
    rw [BitVec.extractLsb'_toNat, Nat.shiftRight_eq_div_pow]
    omega
  have hf : (b.extractLsb' 0 23).toNat = (b.toNat - 2 ^ 31) % 2 ^ 23 := by
    rw [BitVec.extractLsb'_toNat, Nat.shiftRight_zero]
    omega
  unfold Ideal.ieee
  simp only [hn, hx, hf]
  have hk : b.toNat - 2 ^ 31 < 2 ^ 31 := by omega
  generalize b.toNat - 2 ^ 31 = k at hk
  unfold mag magReal
  by_cases he : k < infWord
  · rw [if_pos he, if_neg (by simp only [infWord] at he; omega)]
    by_cases h0 : k / 2 ^ 23 = 0
    · rw [if_pos h0, if_pos h0, ← EReal.coe_neg]
      norm_num
    · rw [if_neg h0, if_neg h0, ← EReal.coe_neg]
      simp only [if_true]
      congr 1
      have e : (((k / 2 ^ 23 : ℕ) : ℤ) - (2 ^ (8 - 1) - 1) - ((23 : ℕ) : ℤ)) = ((k / 2 ^ 23 : ℕ) : ℤ) - 150 := by
        push_cast; ring
      rw [e]
      push_cast; ring
  · rw [if_neg he, if_pos (by simp only [infWord] at he; omega), EReal.neg_top]
    simp

/-- The key of a sortable word: the word with its top bit flipped, read as a natural number. -/
def ord (c : BitVec 32) : ℕ := if c.toNat < 2 ^ 31 then c.toNat + 2 ^ 31 else c.toNat - 2 ^ 31

/-- The pattern the kernel reads a sortable word as: the word, its low 31 bits flipped when it is negative. -/
def pattern (c : BitVec 32) : BitVec 32 := c ^^^ (if c.toNat < 2 ^ 31 then 0#32 else 2147483647#32)

/-- Flipping the low 31 bits of a word with its top bit set. -/
theorem xor_low (c : BitVec 32) (h : 2 ^ 31 ≤ c.toNat) : (c ^^^ 2147483647#32).toNat = 2 ^ 31 + (2 ^ 31 - 1 - (c.toNat - 2 ^ 31)) := by
  have hm : c.msb = true := BitVec.msb_eq_true_iff_two_mul_ge.mpr (by omega)
  have hlt := c.isLt
  have e : c ^^^ 2147483647#32 = BitVec.cons true (~~~(c.setWidth 31)) := by
    conv_lhs =>
      rw [← BitVec.cons_msb_setWidth c, hm, show (2147483647#32 : BitVec 32) = BitVec.cons false (BitVec.allOnes 31) from by decide,
        BitVec.cons_xor_cons, BitVec.xor_allOnes]
    rfl
  have hy := (~~~(c.setWidth 31)).isLt
  have h1 := Nat.two_pow_add_eq_or_of_lt hy 1
  rw [Nat.mul_one] at h1
  rw [e, BitVec.toNat_cons, show true.toNat <<< 31 = 2 ^ 31 from by decide, ← h1, BitVec.toNat_not, BitVec.toNat_setWidth]
  omega

/-- A sortable word whose key is at most that of positive infinity is read as the value of its key. -/
theorem ieee_pattern (c : BitVec 32) (h : ord c ≤ infKey) : Ideal.ieee 8 23 (pattern c) = keyVal (ord c) := by
  have hlt := c.isLt
  unfold pattern keyVal
  unfold ord at h ⊢
  by_cases hc : c.toNat < 2 ^ 31
  · rw [if_pos hc] at h ⊢
    rw [if_pos hc, BitVec.xor_zero, if_neg (by omega), Nat.add_sub_cancel, ieee_pos]
    simp only [infKey] at h
    omega
  · rw [if_neg hc, if_neg hc, if_pos (by omega), ieee_neg _ (by rw [xor_low c (not_lt.1 hc)]; omega), xor_low c (not_lt.1 hc),
      Nat.add_sub_cancel_left]

end Cert.Proof.Keys
-- ==== Proof.Search.lean ====
/-
  The threshold search on one row, as pure mathematics: 32 trips build a sortable word from its top bit down, keeping each bit when at least `k` entries
  of the row are at or above the value of the word with that bit. Where a float32 separates the `k` greatest entries from the others, the entries at or
  above the value of the word found are exactly those `k`.
-/
module

public import proofs.«01_k».proof.Proof.Keys
public import Mathlib.Data.Finset.Card
public import Mathlib.Data.Fintype.Card

@[expose] public section

noncomputable section

namespace Cert.Proof.Search

open Idealize.ShloMosaic Cert.Proof.Keys

variable {n : ℕ} (row : Fin n → EReal) (k : ℕ)

/-- The entries of the row at or above `t`. -/
def atLeast (t : EReal) : Finset (Fin n) := Finset.univ.filter fun j => t ≤ row j

/-- The value a sortable word stands for. -/
def word (c : BitVec 32) : EReal := Ideal.ieee 8 23 (pattern c)

/-- One trip: try bit `31 - i`, keep it if enough entries are at or above the word's value. -/
def step (i : ℕ) (c : BitVec 32) : BitVec 32 :=
  if k ≤ (atLeast row (word (c + BitVec.ofNat 32 (2 ^ (31 - i))))).card then c + BitVec.ofNat 32 (2 ^ (31 - i)) else c

/-- The word after `i` trips, from the least word. -/
def found : ℕ → BitVec 32
  | 0 => 0x80000000#32
  | i + 1 => step row k i (found i)

theorem atLeast_anti {s t : EReal} (h : s ≤ t) : atLeast row t ⊆ atLeast row s := fun j hj => by
  simp only [atLeast, Finset.mem_filter, Finset.mem_univ, true_and] at hj ⊢
  exact h.trans hj

/-- Adding a bit below the word's lowest set one adds it to the key. -/
theorem ord_add {c : BitVec 32} {m : ℕ} (h : ord c + m < 2 ^ 32) : ord (c + BitVec.ofNat 32 m) = ord c + m := by
  have hc := c.isLt
  unfold ord at h ⊢
  rw [BitVec.toNat_add, BitVec.toNat_ofNat]
  split at h <;> split <;> omega

theorem word_eq {c : BitVec 32} (h : ord c ≤ infKey) : word c = keyVal (ord c) := ieee_pattern c h

/-- The search's invariant: what is kept has enough entries at or above it, is the key of a number or of minus infinity, is a multiple of the bit last tried,
    and a key `u` that has enough entries at or above it is less than that bit further. -/
theorem found_inv (hn : k ≤ n) (htop : (atLeast row ⊤).card < k) {u : ℕ} (hu : u < infKey) (hk : k ≤ (atLeast row (keyVal u)).card) :
    ∀ i, i ≤ 32 → ord (found row k i) < infKey ∧ k ≤ (atLeast row (keyVal (ord (found row k i)))).card
      ∧ 2 ^ (32 - i) ∣ ord (found row k i) ∧ u < ord (found row k i) + 2 ^ (32 - i)
  | 0, _ => by
    have h0 : ord (found row k 0) = 0 := by
      show ord 0x80000000#32 = 0
      unfold ord
      rw [if_neg (by decide)]
      decide
    rw [h0, keyVal_zero]
    refine ⟨by norm_num, ?_, Dvd.intro 0 rfl, ?_⟩
    · have : atLeast row ⊥ = Finset.univ := by
        unfold atLeast; exact Finset.filter_true_of_mem fun _ _ => bot_le
      rw [this, Finset.card_univ, Fintype.card_fin]; exact hn
    · simp only [infKey, infWord] at hu; omega
  | i + 1, hi => by
    obtain ⟨h1, h2, h3, h4⟩ := found_inv hn htop hu hk i (by omega)
    have hs : found row k (i + 1) = step row k i (found row k i) := rfl
    rw [hs]
    generalize found row k i = c at h1 h2 h3 h4
    have hb : 2 ^ (32 - i) = 2 * 2 ^ (31 - i) := by
      rw [← pow_succ']; congr 1; omega
    have hb' : 32 - (i + 1) = 31 - i := by omega
    obtain ⟨q, hq⟩ := h3
    have hp : 0 < 2 ^ (31 - i) := Nat.two_pow_pos _
    -- the candidate stays within the keys, and at or below that of positive infinity
    have hle : ord c + 2 ^ (31 - i) ≤ infKey := by
      by_cases hj : 23 ≤ 31 - i
      · obtain ⟨r, hr⟩ : ∃ r, 31 - i = 23 + r := ⟨31 - i - 23, by omega⟩
        have e : 2 ^ (31 - i) = 2 ^ 23 * 2 ^ r := by rw [hr, pow_add]
        have hw : ord c + 2 ^ (31 - i) < 2 ^ 32 := by
          obtain ⟨w, hw⟩ : 2 ^ (32 - i) ∣ 2 ^ 32 := pow_dvd_pow 2 (by omega)
          have : q < w := by
            by_contra hqw
            have := Nat.mul_le_mul_left (2 ^ (32 - i)) (not_lt.1 hqw)
            simp only [infKey, infWord] at h1
            omega
          have := Nat.mul_le_mul_left (2 ^ (32 - i)) (Nat.succ_le_of_lt this)
          rw [Nat.mul_succ] at this
          omega
        have h23 : ord c + 2 ^ (31 - i) = 2 ^ 23 * (2 * 2 ^ r * q + 2 ^ r) := by
          rw [hq, hb, e]; ring
        rw [h23] at hw ⊢
        simp only [infKey, infWord]
        omega
      · obtain ⟨w, hw⟩ : 2 ^ (32 - i) ∣ infKey := Dvd.dvd.trans (pow_dvd_pow 2 (by omega : 32 - i ≤ 23)) ⟨511, by norm_num⟩
        have : q < w := by
          by_contra hqw
          have := Nat.mul_le_mul_left (2 ^ (32 - i)) (not_lt.1 hqw)
          omega
        have := Nat.mul_le_mul_left (2 ^ (32 - i)) (Nat.succ_le_of_lt this)
        rw [Nat.mul_succ] at this
        omega
    have ho : ord (c + BitVec.ofNat 32 (2 ^ (31 - i))) = ord c + 2 ^ (31 - i) := ord_add (lt_of_le_of_lt hle (by norm_num))
    have hw : word (c + BitVec.ofNat 32 (2 ^ (31 - i))) = keyVal (ord c + 2 ^ (31 - i)) := by
      rw [word_eq (by rw [ho]; exact hle), ho]
    unfold step
    rw [hw, hb']
    by_cases hkeep : k ≤ (atLeast row (keyVal (ord c + 2 ^ (31 - i)))).card
    · rw [if_pos hkeep, ho]
      refine ⟨lt_of_le_of_ne hle fun he => ?_, hkeep, ⟨2 * q + 1, ?_⟩, by omega⟩
      · rw [he, keyVal_infKey] at hkeep; omega
      · rw [hq, hb]; ring
    · rw [if_neg hkeep]
      refine ⟨h1, h2, ⟨2 * q, ?_⟩, ?_⟩
      · rw [hq, hb]; ring
      · by_contra hcu
        exact hkeep (hk.trans (Finset.card_le_card (atLeast_anti row (keyVal_mono (not_lt.1 hcu)))))

/-- Where a number `v` of magnitude at most 2^126 is the least of the entries of a set `S` of `k` positions, `nxt` is at or above all the others, and the two are
    further apart than a float32 spacing, the entries at or above the value found are those of `S`. -/
theorem found_spec (hn : k ≤ n) (S : Finset (Fin n)) (hS : S.card = k) (v : ℝ) (nxt : EReal) (hk0 : ∀ j ∈ S, (v : EReal) ≤ row j)
    (hk1 : ∃ j ∈ S, row j = v) (hnxt : ∀ j, j ∉ S → row j ≤ nxt) (hv : |v| ≤ (2 : ℝ) ^ (126 : ℕ))
    (hgap : nxt ≤ ((v - max ((2 : ℝ) ^ (-149 : ℤ)) (|v| * (2 : ℝ) ^ (-23 : ℤ)) : ℝ) : EReal)) (j : Fin n) :
    word (found row k 32) ≤ row j ↔ j ∈ S := by
  obtain ⟨u, r, hu, hr, hrv, hvr⟩ := exists_key v hv
  have hsep : atLeast row (keyVal u) = S := by
    ext i
    simp only [atLeast, Finset.mem_filter, Finset.mem_univ, true_and]
    rw [hr]
    constructor
    · intro h
      by_contra hi
      have h2 := (h.trans (hnxt i hi)).trans hgap
      rw [EReal.coe_le_coe_iff] at h2
      linarith
    · intro h
      exact le_trans (EReal.coe_le_coe_iff.2 hrv) (hk0 i h)
  have htop : (atLeast row ⊤).card < k := by
    obtain ⟨i, hi, hiv⟩ := hk1
    rw [← hS]
    refine Finset.card_lt_card ⟨fun a ha => ?_, fun hsub => ?_⟩
    · rw [← hsep]; exact atLeast_anti row le_top ha
    · have := hsub hi
      simp only [atLeast, Finset.mem_filter, Finset.mem_univ, true_and, hiv] at this
      exact EReal.coe_ne_top v (top_le_iff.1 this)
  obtain ⟨h1, h2, -, h4⟩ := found_inv row k hn htop hu (by rw [hsep, hS]) 32 le_rfl
  have hle : u ≤ ord (found row k 32) := by norm_num at h4; omega
  rw [word_eq h1.le]
  have heq : atLeast row (keyVal (ord (found row k 32))) = S := by
    refine Finset.eq_of_subset_of_card_le ?_ (by rw [hS]; exact h2)
    rw [← hsep]; exact atLeast_anti row (keyVal_mono hle)
  rw [← heq]
  simp only [atLeast, Finset.mem_filter, Finset.mem_univ, true_and]

end Cert.Proof.Search
-- ==== Proof.ScoreBlock.lean ====
/-
  What the second call computes for a block of queries after its scores: the search's word for each row, and the output chosen by it.
-/
module

public import proofs.«01_k».proof.Proof.Heads
public import proofs.«01_k».proof.Proof.Search
public import Idealize.ShloMosaic.Lib.WordSum

@[expose] public section

noncomputable section

namespace Cert.Proof.ScoreBlock

open Cert.KernelIdeal Cert.KernelIdeal.Gen
open Idealize.ShloMosaic Idealize.ShloMosaic.ValueIdx

variable (q : FVec Ideal S256x2048 .bf16) (v41 : Vec Ideal S2048x128 .f32) (v44 : Vec Ideal S256x128 .f32)

/-- The scores before the last two heads. -/
abbrev before : FVec Ideal S256x2048 .f32 :=
  k1_pay12 q (k1_pay6 v41) (k1_pay7 v44) (k1_pay10 q (k1_pay6 v41) (k1_pay7 v44) (k1_pay8 q v41 v44) (k1_pay9 q)) (k1_pay11 q)

/-- One trip of the search, on every row. -/
abbrev trip (a : Fin k1_t1_loop.trips) (x : IVec S256x1 32) : IVec S256x1 32 :=
  k1_pay3 q (k1_pay6 v41) (k1_pay7 v44) (before q v41 v44) (k1_pay13 q) a x

/-- The search's words. -/
def words : IVec S256x1 32 := Scf.fold (trip q v41 v44) k1_pay2

/-- The output block. -/
def out : FVec Ideal S256x2048 .f32 := k1_pay4 q (k1_pay6 v41) (k1_pay7 v44) (before q v41 v44) (k1_pay13 q) (words q v41 v44)

/-- The value the program reads from each row's word. -/
def decode (x : IVec S256x1 32) : FVec Ideal S256x1 .f32 :=
  bitcastToFloat .f32 (xori x (select (cmpi .slt x (broadcast S256x1 0#32)) (broadcast S256x1 2147483647#32) (broadcast S256x1 0#32)))

/-- The value read from a word. -/
theorem decode_apply (x : IVec S256x1 32) (i : S256x1.Idx) : decode x i = Search.word (x i) := by
  show Ideal.ieee 8 23 (x i ^^^ (if BitVec.ofBool ((x i).slt 0#32) = 1 then 2147483647#32 else 0#32)) = _
  unfold Search.word Keys.pattern
  refine congrArg (fun m => Ideal.ieee 8 23 (x i ^^^ m)) ?_
  have hm : (x i).slt 0#32 = !decide ((x i).toNat < 2 ^ 31) := by
    rw [BitVec.slt_zero_eq_msb, BitVec.msb_eq_decide]
    by_cases h : (x i).toNat < 2 ^ 31
    · simp only [h, decide_true, Bool.not_true, decide_eq_false_iff_not, not_le]
    · simp only [h, decide_false, Bool.not_false, decide_eq_true_eq]
      exact Nat.le_of_not_lt h
  rw [hm]
  by_cases h : (x i).toNat < 2 ^ 31
  · rw [if_pos h, decide_eq_true h]; rfl
  · rw [if_neg h, decide_eq_false h]; rfl

/-- Whether a score is at or above its row's value. -/
theorem above_apply (a : FVec Ideal S256x2048 .f32) (x : IVec S256x1 32) (r : Fin 256) (s : Fin 2048) :
    cmpf .oge a (broadcastTo S256x2048 (decode x) broadcasts_S256x1_S256x2048) (ix2 r s)
      = BitVec.ofBool (decide (Search.word (x (ix2 r (0 : Fin 1))) ≤ a (ix2 r s))) := by
  rw [← decode_apply, ← broadcastTo_apply (decode x) broadcasts_S256x1_S256x2048 (ix2 r s) (ix2 r (0 : Fin 1)) (fun a => by fin_cases a <;> rfl)]
  rfl

/-- How many scores of a row are at or above its value. -/
def count (a : FVec Ideal S256x2048 .f32) (x : IVec S256x1 32) : IVec S256x1 32 :=
  shapeCast S256x1 (multiReductionI .add [1] S256
    (extui 32 (cmpf .oge a (broadcastTo S256x2048 (decode x) broadcasts_S256x1_S256x2048)) natLt_1_32) 0#32 reduces_S256x2048_S256 rfl) shapeCasts_S256_S256x1

/-- The count is the number of the row's scores at or above the value. -/
theorem count_apply (a : FVec Ideal S256x2048 .f32) (x : IVec S256x1 32) (r : Fin 256) :
    (count a x (ix2 r (0 : Fin 1))).toNat = (Search.atLeast (fun s => a (ix2 r s)) (Search.word (x (ix2 r (0 : Fin 1))))).card := by
  have hs : ∑ i ∈ Finset.univ.filter (fun i => reduces_S256x2048_S256.drop i = ix1 r),
      (extui 32 (cmpf .oge a (broadcastTo S256x2048 (decode x) broadcasts_S256x1_S256x2048)) natLt_1_32 i).toNat
      = (Search.atLeast (fun s => a (ix2 r s)) (Search.word (x (ix2 r (0 : Fin 1))))).card := by
    rw [reduces_S256x2048_S256.sum_filter_drop_single
      (fun i => (extui 32 (cmpf .oge a (broadcastTo S256x2048 (decode x) broadcasts_S256x1_S256x2048)) natLt_1_32 i).toNat) (ix1 r)]
    unfold Search.atLeast
    rw [Finset.card_filter]
    refine Finset.sum_congr rfl fun (s : Fin 2048) _ => ?_
    have e : reduces_S256x2048_S256.lift (ix1 r) s = ix2 r s := funext fun a => by fin_cases a <;> rfl
    rw [e]
    show ((cmpf .oge a (broadcastTo S256x2048 (decode x) broadcasts_S256x1_S256x2048) (ix2 r s)).setWidth 32).toNat = _
    rw [above_apply]
    by_cases h : Search.word (x (ix2 r (0 : Fin 1))) ≤ a (ix2 r s)
    · rw [if_pos h, decide_eq_true h]; rfl
    · rw [if_neg h, decide_eq_false h]; rfl
  have hc : (Search.atLeast (fun s => a (ix2 r s)) (Search.word (x (ix2 r (0 : Fin 1))))).card ≤ 2048 :=
    (Finset.card_le_univ _).trans (by rw [Fintype.card_fin])
  unfold count
  rw [shapeCast_apply _ shapeCasts_S256_S256x1 (ix2 r (0 : Fin 1)) (ix1 r)
    (by rw [Shape.rowMajor_val_two, Shape.rowMajor_val_one]; show r.val = r.val * 1 + 0; rw [Nat.mul_one, Nat.add_zero])]
  exact (WordSum.toNat_multiReductionI_add _ _ _ _ (by rw [hs]; omega)).trans hs

/-- The bit that trip `a` tries. -/
theorem bit_eq (a : Fin k1_t1_loop.trips) :
    Scalar.shli 1#32 (Scalar.subi 31#32 (Scf.iv 0#32 1#32 a)) = BitVec.ofNat 32 (2 ^ (31 - a.val)) := by
  have h : ∀ a : Fin 32, Scalar.shli 1#32 (Scalar.subi 31#32 (Scf.iv 0#32 1#32 a.val)) = BitVec.ofNat 32 (2 ^ (31 - a.val)) := by decide +kernel
  exact h ⟨a.val, a.isLt⟩

/-- One trip on a row is one step of the search on the row's scores. -/
theorem trip_apply (a : Fin k1_t1_loop.trips) (x : IVec S256x1 32) (r : Fin 256) :
    trip q v41 v44 a x (ix2 r (0 : Fin 1))
      = Search.step (fun s => Heads.acc q v41 v44 (ix2 r s)) 1024 a.val (x (ix2 r (0 : Fin 1))) := by
  have e : trip q v41 v44 a x = fun i =>
      Scalar.select (IntOp.cmpi .sge
        (count (Heads.acc q v41 v44) (addi x (broadcast S256x1 (Scalar.shli 1#32 (Scalar.subi 31#32 (Scf.iv 0#32 1#32 a))))) i) 1024#32)
        (x i + Scalar.shli 1#32 (Scalar.subi 31#32 (Scf.iv 0#32 1#32 a))) (x i) := by
    unfold trip k1_pay3 count decode Heads.acc
    rfl
  rw [e, bit_eq]
  generalize Heads.acc q v41 v44 = y
  show (if BitVec.ofBool ((1024#32).sle (count y (addi x (broadcast S256x1 (BitVec.ofNat 32 (2 ^ (31 - a.val))))) (ix2 r (0 : Fin 1)))) = 1 then _ else _) = _
  unfold Search.step
  have hc := count_apply y (addi x (broadcast S256x1 (BitVec.ofNat 32 (2 ^ (31 - a.val))))) r
  have hle : (Search.atLeast (fun s => y (ix2 r s)) (Search.word (x (ix2 r (0 : Fin 1)) + BitVec.ofNat 32 (2 ^ (31 - a.val))))).card ≤ 2048 :=
    (Finset.card_le_univ _).trans (by rw [Fintype.card_fin])
  change _ = (Search.atLeast (fun s => y (ix2 r s)) (Search.word (x (ix2 r (0 : Fin 1)) + BitVec.ofNat 32 (2 ^ (31 - a.val))))).card at hc
  revert hc
  generalize count y (addi x (broadcast S256x1 (BitVec.ofNat 32 (2 ^ (31 - a.val))))) (ix2 r (0 : Fin 1)) = n
  revert hle
  generalize (Search.atLeast (fun s => y (ix2 r s)) (Search.word (x (ix2 r (0 : Fin 1)) + BitVec.ofNat 32 (2 ^ (31 - a.val))))).card = m
  intro hle hc
  have hsle : (1024#32).sle n = decide (1024 ≤ m) := by
    rw [BitVec.sle_eq_decide, BitVec.toInt_eq_toNat_of_lt (x := n) (by rw [hc]; omega), hc,
      show (1024#32 : BitVec 32).toInt = 1024 from by decide]
    exact decide_eq_decide.mpr (by omega)
  rw [hsle]
  by_cases h : 1024 ≤ m
  · rw [if_pos h, decide_eq_true h]; rfl
  · rw [if_neg h, decide_eq_false h]; rfl

/-- After the trips each row holds the word its search finds. -/
theorem words_apply (r : Fin 256) : words q v41 v44 (ix2 r (0 : Fin 1)) = Search.found (fun s => Heads.acc q v41 v44 (ix2 r s)) 1024 32 := by
  have key : ∀ (n : ℕ) (hn : n ≤ 32) (l : List (Fin k1_t1_loop.trips)), l.map Fin.val = List.range n →
      (l.foldl (fun x a => trip q v41 v44 a x) k1_pay2) (ix2 r (0 : Fin 1)) = Search.found (fun s => Heads.acc q v41 v44 (ix2 r s)) 1024 n := by
    intro n
    induction n with
    | zero =>
      intro _ l hl
      have : l = [] := List.map_eq_nil_iff.mp hl
      subst this
      rfl
    | succ n ih =>
      intro hn l hl
      rcases List.eq_nil_or_concat l with h | ⟨l', b, h⟩
      · subst h
        rw [List.range_succ] at hl
        simp at hl
      · subst h
        rw [List.range_succ, List.concat_eq_append, List.map_append, List.map_singleton] at hl
        have h2 := List.append_inj' hl rfl
        have hb : b.val = n := by simpa using h2.2
        rw [List.concat_eq_append, List.foldl_append, List.foldl_cons, List.foldl_nil, trip_apply, ih (by omega) l' h2.1, hb]
        rfl
  unfold words
  rw [Scf.fold_eq]
  refine key 32 le_rfl _ ?_
  exact List.map_coe_finRange_eq_range (n := 32)

/-- The output block: zero where the score is at or above the value the row's search finds, the constant of the masked positions elsewhere. -/
theorem out_apply (r : Fin 256) (s : Fin 2048) :
    out q v41 v44 (ix2 r s)
      = if Search.word (Search.found (fun s => Heads.acc q v41 v44 (ix2 r s)) 1024 32) ≤ Heads.acc q v41 v44 (ix2 r s)
        then FloatOps.ofBits (F := Ideal) .f32 0x00000000#32 else FloatOps.ofBits (F := Ideal) .f32 0xCE6E6B28#32 := by
  have e : out q v41 v44 = fun i => Scalar.select
      (cmpf .oge (Heads.acc q v41 v44) (broadcastTo S256x2048 (decode (words q v41 v44)) broadcasts_S256x1_S256x2048) i)
      (FloatOps.ofBits (F := Ideal) .f32 0x00000000#32) (FloatOps.ofBits (F := Ideal) .f32 0xCE6E6B28#32) := by
    unfold out k1_pay4 decode Heads.acc
    rfl
  rw [e, ← words_apply]
  show (if cmpf .oge (Heads.acc q v41 v44) (broadcastTo S256x2048 (decode (words q v41 v44)) broadcasts_S256x1_S256x2048) (ix2 r s) = 1 then _ else _) = _
  rw [above_apply]
  by_cases h : Search.word (words q v41 v44 (ix2 r (0 : Fin 1))) ≤ Heads.acc q v41 v44 (ix2 r s)
  · rw [if_pos h, decide_eq_true h]; rfl
  · rw [if_neg h, decide_eq_false h]; rfl

end Cert.Proof.ScoreBlock
-- ==== Proof.Block1.lean ====
/-
  What the second call leaves in its output block: the payloads of its body at the input blocks.
-/
module

public import proofs.«01_k».proof.Proof.Gen.KernelIdeal.Frame
public import proofs.«01_k».proof.Proof.ScoreBlock

@[expose] public section

noncomputable section

namespace Cert.Proof.Block1

open Cert.KernelIdeal Cert.KernelIdeal.Gen
open Idealize.ShloMosaic

/-- An offset of zeros. -/
theorem zeros : (![0, 0] : Fin 2 → ℕ) = fun _ => 0 := funext fun a => by fin_cases a <;> rfl

/-- The block of iteration `t` is the output of the search over the scores of the block's queries against all keys. -/
theorem outsAt1_eq (V : (c : Dev nD) → (b : Ref sig .tc) → Buf (Elt Ideal) (c.tc.loc b)) (c : Dev nD) (t : Fin cfg1.N) :
    outsAt1 V c t = ScoreBlock.out (k1_pay5 (F := Ideal) (iblk1 V c 0 t) (iblk1 V c 1 t) (iblk1 V c 4 t) (iblk1 V c 5 t))
      (iblk1 V c 2 t) (iblk1 V c 3 t) := by
  unfold outsAt1 out1_A_6
  rw [View.read_writes_eq_canon _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t))]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread]
  rw [View.canon_unit_zero zeros]
  simp only [View.ld_unit_zero (S := S256x1536) zeros, View.ld_unit_zero (S := S1536x2048) zeros, View.ld_unit_zero (S := S2048x128) zeros, View.ld_unit_zero (S := S256x128) zeros]
  rfl

end Cert.Proof.Block1
-- ==== Proof.Region1.lean ====
/-
  What the second call leaves in its output array: per row, zero where the score is at or above the value its search finds, the masked constant elsewhere.
-/
module

public import proofs.«01_k».proof.Proof.Block1
public import proofs.«01_k».proof.Proof.Rotate
public import Idealize.ShloMosaic.Lib.Pipeline.ValueKit

@[expose] public section

noncomputable section

namespace Cert.Proof.Region1

open Cert.KernelIdeal Cert.KernelIdeal.Gen
open Idealize.ShloMosaic Idealize.ShloMosaic.TcCoe Idealize.SL.Sem Idealize.ShloMosaic.Pipeline

variable (V : (c : Dev nD) → (b : Ref sig .tc) → Buf (Elt Ideal) ((c : Thread nD τ).loc b)) (c : Dev nD)

/-- Every window's block index at an iteration. -/
theorem idx : ∀ t : Fin cfg1.N, win1_0.index t = ![t.val, 0] ∧ win1_1.index t = ![0, 0] ∧ win1_2.index t = ![0, 0] ∧ win1_3.index t = ![t.val, 0]
    ∧ win1_4.index t = ![t.val, 0] ∧ win1_5.index t = ![t.val, 0] ∧ win1_6.index t = ![t.val, 0] :=
  (by decide +kernel : ∀ t : Fin grid1.N, _)

/-- Row `r` of block `t`. -/
def row (t : Fin cfg1.N) (r : Fin 256) : Fin 2048 := ⟨t.val * 256 + r.val, by have h : t.val < 8 := t.isLt; omega⟩

/-- The compressed queries the call reads. -/
abbrev qr : FVec Ideal S2048x1536 .f32 := V c main_v1
/-- The queries' projection the call reads. -/
abbrev wq : FVec Ideal S1536x2048 .f32 := V c main_v10
/-- The keys the call reads. -/
abbrev keys : FVec Ideal S2048x128 .f32 := V c main_v13_0
/-- The weights the call reads. -/
abbrev weights : FVec Ideal S2048x128 .f32 := V c main_v13_1
/-- The table of cosines the call reads. -/
abbrev cosines : FVec Ideal S2048x128 .f32 := V c main_v4
/-- The table of signed sines the call reads. -/
abbrev sines : FVec Ideal S2048x128 .f32 := V c main_v6

/-- The queries' block. -/
theorem block0 (t : Fin cfg1.N) (r : Fin 256) (k : Fin 1536) : iblk1 V c 0 t (ValueIdx.ix2 r k) = qr V c (ValueIdx.ix2 (row t r) k) := by
  blk_ext [iblk1, idx t, row]

/-- The queries' projection is one block. -/
theorem block1 (t : Fin cfg1.N) : iblk1 V c 1 t = wq V c := by
  blk_ext! [iblk1, idx t]

/-- The keys are one block. -/
theorem block2 (t : Fin cfg1.N) : iblk1 V c 2 t = keys V c := by
  blk_ext! [iblk1, idx t]

/-- The weights' block. -/
theorem block3 (t : Fin cfg1.N) (r : Fin 256) (d : Fin 128) : iblk1 V c 3 t (ValueIdx.ix2 r d) = weights V c (ValueIdx.ix2 (row t r) d) := by
  blk_ext [iblk1, idx t, row]

/-- The cosines' block. -/
theorem block4 (t : Fin cfg1.N) (r : Fin 256) (d : Fin 128) : iblk1 V c 4 t (ValueIdx.ix2 r d) = cosines V c (ValueIdx.ix2 (row t r) d) := by
  blk_ext [iblk1, idx t, row]

/-- The signed sines' block. -/
theorem block5 (t : Fin cfg1.N) (r : Fin 256) (d : Fin 128) : iblk1 V c 5 t (ValueIdx.ix2 r d) = sines V c (ValueIdx.ix2 (row t r) d) := by
  blk_ext [iblk1, idx t, row]

/-- The projected query of a row at a lane of the stacked heads. -/
def projected (r : Fin 2048) (l : Fin 2048) : EReal := ∑ k : Fin 1536, qr V c (ValueIdx.ix2 r k) * wq V c (ValueIdx.ix2 k l)

/-- The query of a row and a head: its projection rotated by the tables. -/
def queryAt (r : Fin 2048) (h : Fin 16) (d : Fin 128) : EReal :=
  projected V c r (Spec.lane h d) * cosines V c (ValueIdx.ix2 r d) + projected V c r (Spec.lane h (Spec.partner d)) * sines V c (ValueIdx.ix2 r d)

/-- The score of a row against a key. -/
def scoreAt (r s : Fin 2048) : EReal :=
  Spec.combine (fun d => keys V c (ValueIdx.ix2 s d)) (queryAt V c r) (fun h => weights V c (ValueIdx.ix2 r ⟨h.val, by omega⟩))

/-- The output for a row and a key. -/
def outAt (r s : Fin 2048) : EReal :=
  if Search.word (Search.found (scoreAt V c r) 1024 32) ≤ scoreAt V c r s
  then FloatOps.ofBits (F := Ideal) .f32 0x00000000#32 else FloatOps.ofBits (F := Ideal) .f32 0xCE6E6B28#32

/-- A block's scores are its rows' scores. -/
theorem acc_eq (t : Fin cfg1.N) (r : Fin 256) (s : Fin 2048) :
    Heads.acc (k1_pay5 (F := Ideal) (iblk1 V c 0 t) (iblk1 V c 1 t) (iblk1 V c 4 t) (iblk1 V c 5 t)) (iblk1 V c 2 t) (iblk1 V c 3 t) (ValueIdx.ix2 r s)
      = scoreAt V c (row t r) s := by
  rw [Heads.acc_apply, block2]
  unfold scoreAt
  simp only [block3]
  refine congrArg (fun q => Spec.combine _ q _) (funext fun h => funext fun d => ?_)
  rw [Rotate.query_apply, block4, block5, Rotate.proj_apply, Rotate.proj_apply, block1]
  simp only [block0]
  rfl

/-- The row and column at which an output block places one of its elements. -/
theorem placed6 (t : Fin cfg1.N) (r : Fin 256) (s : Fin 2048) :
    (((cfg1.win 6).blk t).view.emb (ValueIdx.ix2 r s) : S2048x2048.Idx) = ValueIdx.ix2 (row t r) s := by
  blk_ext [idx t, row]

/-- The output array after the call. -/
theorem arr6 : (dat1 V c).arrAt 6 cfg1.N = fun i : S2048x2048.Idx => outAt V c (i 0) (i 1) := by
  refine (dat1 V c).arrAt_eq_of_covers 6 _ (by decide +kernel) fun t hf y => ?_
  blk_simp
  rw [after1_6, Block1.outsAt1_eq]
  obtain ⟨r, s, rfl⟩ : ∃ (r : Fin 256) (s : Fin 2048), y = ValueIdx.ix2 r s := ⟨y 0, y 1, funext fun a => by fin_cases a <;> rfl⟩
  rw [ScoreBlock.out_apply]
  simp only [acc_eq]
  exact (congrArg (fun i : S2048x2048.Idx => outAt V c (i 0) (i 1)) (placed6 t r s)).symm

end Cert.Proof.Region1
-- ==== Proof.Host.lean ====
/-
  What the operations before the first call leave in the arrays that the two calls read, each element from the arguments.
-/
module

public import proofs.«01_k».proof.Proof.Gen.KernelIdeal.Frame
public import proofs.«01_k».proof.Proof.Spec
public import Idealize.ShloMosaic.Lib.IdealHost
public import Idealize.ShloMosaic.Lib.KernelVsHost
public import Idealize.ShloMosaic.Lib.ValueIdx

@[expose] public section

noncomputable section

namespace Cert.Proof.Host

open Cert.KernelIdeal Cert.KernelIdeal.Gen
open Idealize.ShloMosaic Idealize.ShloMosaic.ValueIdx Idealize.ShloMosaic.TcCoe Idealize.SL.Sem Idealize.ShloMosaic.StableHlo

/-- Two tables of 32 lanes and one of 64 side by side, an element at a time. -/
theorem three_apply (a b : FVec Ideal S2048x32 .f32) (z : FVec Ideal S2048x64 .f32) (r : Fin 2048) (d : Fin 128) :
    concatenate S2048x128 1 [⟨S2048x32, a⟩, ⟨S2048x32, b⟩, ⟨S2048x64, z⟩] concatenates_S2048x32_S2048x32_S2048x64_S2048x128_d1 (ix2 r d)
      = if h : d.val < 32 then a (ix2 r ⟨d.val, h⟩) else if h2 : d.val < 64 then b (ix2 r ⟨d.val - 32, by omega⟩)
        else z (ix2 r ⟨d.val - 64, by omega⟩) := by
  by_cases h : d.val < 32
  · rw [dif_pos h]
    refine concatenate_apply_piece 1 [⟨S2048x32, a⟩, ⟨S2048x32, b⟩, ⟨S2048x64, z⟩] _ (ix2 r d) 0 (show 0 < 3 by decide) S2048x32 a rfl rfl 0 rfl (ix2 r ⟨d.val, h⟩) (fun b hb => ?_) (Nat.zero_add _)
    fin_cases b
    · rfl
    · exact absurd rfl hb
  · rw [dif_neg h]
    by_cases h2 : d.val < 64
    · rw [dif_pos h2]
      refine concatenate_apply_piece 1 [⟨S2048x32, a⟩, ⟨S2048x32, b⟩, ⟨S2048x64, z⟩] _ (ix2 r d) 1 (show 1 < 3 by decide) S2048x32 b rfl rfl 32 rfl (ix2 r ⟨d.val - 32, by omega⟩) (fun b hb => ?_)
        (by show 32 + (d.val - 32) = d.val; omega)
      fin_cases b
      · rfl
      · exact absurd rfl hb
    · rw [dif_neg h2]
      refine concatenate_apply_piece 1 [⟨S2048x32, a⟩, ⟨S2048x32, b⟩, ⟨S2048x64, z⟩] _ (ix2 r d) 2 (show 2 < 3 by decide) S2048x64 z rfl rfl 64 rfl (ix2 r ⟨d.val - 64, by omega⟩) (fun b hb => ?_)
        (by show 64 + (d.val - 64) = d.val; omega)
      fin_cases b
      · rfl
      · exact absurd rfl hb

/-- The word of the literal one is one. -/
theorem one_eq : FloatOps.ofBits (F := Ideal) .f32 0x3F800000#32 = (1 : EReal) :=
  Ideal.ofBits_one_f32

variable (m : (ℓ : Loc nD τ sig) → Buf (Elt Ideal) ℓ) (ρ : Dev nD → PrngReg) (c : Dev nD)

/-- The tokens' rows. -/
theorem v0_apply (r : Fin 2048) (k : Fin 2048) :
    (W3 m ρ c (Proc.devRef .tc main_v0) : FVec Ideal S2048x2048 .f32) (ix2 r k) = (m ((c : Thread nD τ).loc main_arg0) : FVec Ideal S1x2048x2048 .f32) (ix3 0 r k) := by
  rw [W3_of m ρ c main_v0 (by decide), W2_of m ρ c main_v0 (by decide)]
  have e : W1 m ρ c (Proc.devRef .tc main_v0) = shapeCast S2048x2048 (m ((c : Thread nD τ).loc main_arg0) : FVec Ideal S1x2048x2048 .f32) shapeCasts_S1x2048x2048_S2048x2048 := by
    after_results; rfl
  rw [e]
  refine shapeCast_apply _ _ (ix2 r k) (ix3 0 r k) ?_
  rw [Shape.rowMajor_val_two, Shape.rowMajor_val_three]
  show (0 * 2048 + r.val) * 2048 + k.val = r.val * 2048 + k.val
  rw [Nat.zero_mul, Nat.zero_add]

/-- The compressed queries' rows. -/
theorem v1_apply (r : Fin 2048) (k : Fin 1536) :
    (W3 m ρ c (Proc.devRef .tc main_v1) : FVec Ideal S2048x1536 .f32) (ix2 r k) = (m ((c : Thread nD τ).loc main_arg1) : FVec Ideal S1x2048x1536 .f32) (ix3 0 r k) := by
  rw [W3_of m ρ c main_v1 (by decide), W2_of m ρ c main_v1 (by decide)]
  have e : W1 m ρ c (Proc.devRef .tc main_v1) = shapeCast S2048x1536 (m ((c : Thread nD τ).loc main_arg1) : FVec Ideal S1x2048x1536 .f32) shapeCasts_S1x2048x1536_S2048x1536 := by
    after_results; rfl
  rw [e]
  refine shapeCast_apply _ _ (ix2 r k) (ix3 0 r k) ?_
  rw [Shape.rowMajor_val_two, Shape.rowMajor_val_three]
  show (0 * 2048 + r.val) * 1536 + k.val = r.val * 1536 + k.val
  rw [Nat.zero_mul, Nat.zero_add]

/-- The table of cosines. -/
theorem v4_apply (r : Fin 2048) (d : Fin 128) :
    (W3 m ρ c (Proc.devRef .tc main_v4) : FVec Ideal S2048x128 .f32) (ix2 r d)
      = Spec.cosTable (fun j => (m ((c : Thread nD τ).loc main_arg2) : FVec Ideal S2048x32 .f32) (ix2 r j)) 1 d := by
  rw [W3_of m ρ c main_v4 (by decide), W2_of m ρ c main_v4 (by decide)]
  have e : W1 m ρ c (Proc.devRef .tc main_v4) = concatenate S2048x128 1 [⟨S2048x32, (m ((c : Thread nD τ).loc main_arg2) : FVec Ideal S2048x32 .f32)⟩,
      ⟨S2048x32, (m ((c : Thread nD τ).loc main_arg2) : FVec Ideal S2048x32 .f32)⟩,
      ⟨S2048x64, broadcastInDim S2048x64 ![] bcast_S_S2048x64 (constant (F := Ideal) S_ .f32 0x3F800000#32)⟩] concatenates_S2048x32_S2048x32_S2048x64_S2048x128_d1 := by
    after_results; rfl
  rw [e, three_apply, ← one_eq]
  rfl

/-- The table of signed sines. -/
theorem v6_apply (r : Fin 2048) (d : Fin 128) :
    (W3 m ρ c (Proc.devRef .tc main_v6) : FVec Ideal S2048x128 .f32) (ix2 r d)
      = Spec.sinTable (fun j => (m ((c : Thread nD τ).loc main_arg3) : FVec Ideal S2048x32 .f32) (ix2 r j)) 0 d := by
  rw [W3_of m ρ c main_v6 (by decide), W2_of m ρ c main_v6 (by decide)]
  have e : W1 m ρ c (Proc.devRef .tc main_v6) = concatenate S2048x128 1 [⟨S2048x32, Host.negf (m ((c : Thread nD τ).loc main_arg3) : FVec Ideal S2048x32 .f32)⟩,
      ⟨S2048x32, (m ((c : Thread nD τ).loc main_arg3) : FVec Ideal S2048x32 .f32)⟩,
      ⟨S2048x64, broadcastInDim S2048x64 ![] bcast_S_S2048x64 (constant (F := Ideal) S_ .f32 0x00000000#32)⟩] concatenates_S2048x32_S2048x32_S2048x64_S2048x128_d1 := by
    after_results; rfl
  rw [e, three_apply, ← Ideal.ofBits_zero_f32]
  rfl

/-- The keys' projection, transposed. -/
theorem v7_apply (k : Fin 2048) (d : Fin 128) :
    (W3 m ρ c (Proc.devRef .tc main_v7) : FVec Ideal S2048x128 .f32) (ix2 k d) = (m ((c : Thread nD τ).loc main_arg6) : FVec Ideal S128x2048 .f32) (ix2 d k) := by
  rw [W3_of m ρ c main_v7 (by decide), W2_of m ρ c main_v7 (by decide)]
  have e : W1 m ρ c (Proc.devRef .tc main_v7) = transpose S2048x128 [1, 0] (m ((c : Thread nD τ).loc main_arg6) : FVec Ideal S128x2048 .f32) transposes_S128x2048_S2048x128_1_0 := by
    after_results
  rw [e]
  exact transpose_apply [1, 0] _ _ (ix2 k d) (ix2 d k) (fun b => by fin_cases b <;> rfl)

/-- The padding's stretch, from any contents. -/
theorem padded (V : Valuation τ sig (Elt Ideal)) :
    after (hostOps0_1 (F := Ideal)) V (Proc.devRef .tc main_v9)
      = pad S2048x128 ![0, 0] ![0, 112] ![0, 0] (V (Proc.devRef .tc main_v8) : FVec Ideal S2048x16 .f32)
        (sitofp .f32 (V (Proc.devRef .tc main_c) : IVec S_ 32) : FVec Ideal S_ .f32) pads_S2048x16_S2048x128_000_01120 h_S_ := by
  after_results_simp
  rfl

/-- The heads' weights' projection, transposed and padded, at one of its sixteen heads. -/
theorem v9_apply (k : Fin 2048) (h : Fin 16) :
    (W3 m ρ c (Proc.devRef .tc main_v9) : FVec Ideal S2048x128 .f32) (ix2 k ⟨h.val, by omega⟩) = (m ((c : Thread nD τ).loc main_arg9) : FVec Ideal S16x2048 .f32) (ix2 h k) := by
  rw [W3_of m ρ c main_v9 (by decide)]
  have e8 : W1 m ρ c (Proc.devRef .tc main_v8) = transpose S2048x16 [1, 0] (m ((c : Thread nD τ).loc main_arg9) : FVec Ideal S16x2048 .f32) transposes_S16x2048_S2048x16_1_0 := by
    after_results
  have e : W2 m ρ c (Proc.devRef .tc main_v9) = _ := padded (W1 m ρ c)
  rw [e, e8]
  refine (pad_apply_of_inside _ _ _ _ _ _ _ (ix2 k ⟨h.val, by omega⟩) (ix2 k h) (fun a => ?_)).trans ?_
  · fin_cases a
    · show k.val = 0 + k.val * (0 + 1)
      omega
    · show h.val = 0 + h.val * (0 + 1)
      omega
  exact transpose_apply [1, 0] _ _ (ix2 k h) (ix2 h k) (fun b => by fin_cases b <;> rfl)

/-- The queries' projection, transposed. -/
theorem v10_apply (k : Fin 1536) (l : Fin 2048) :
    (W3 m ρ c (Proc.devRef .tc main_v10) : FVec Ideal S1536x2048 .f32) (ix2 k l) = (m ((c : Thread nD τ).loc main_arg5) : FVec Ideal S2048x1536 .f32) (ix2 l k) := by
  rw [← W2_args m ρ c main_arg5 (by decide)]
  have e : W3 m ρ c (Proc.devRef .tc main_v10) = transpose S1536x2048 [1, 0] (W2 m ρ c (Proc.devRef .tc main_arg5) : FVec Ideal S2048x1536 .f32) transposes_S2048x1536_S1536x2048_1_0 := by
    show after hostOps0_2 (W2 m ρ c) _ = _
    generalize W2 m ρ c = V
    after_results
  rw [e]
  exact transpose_apply [1, 0] _ _ (ix2 k l) (ix2 l k) (fun b => by fin_cases b <;> rfl)

/-- The normalization's scale, as a row. -/
theorem v11_apply (d : Fin 128) :
    (W3 m ρ c (Proc.devRef .tc main_v11) : FVec Ideal S1x128 .f32) (ix2 0 d) = (m ((c : Thread nD τ).loc main_arg7) : FVec Ideal S128 .f32) (ix1 d) := by
  rw [← W2_args m ρ c main_arg7 (by decide)]
  have e : W3 m ρ c (Proc.devRef .tc main_v11) = broadcastInDim S1x128 ![1] bcast_S128_S1x128_1 (W2 m ρ c (Proc.devRef .tc main_arg7) : FVec Ideal S128 .f32) := by
    show after hostOps0_2 (W2 m ρ c) _ = _
    generalize W2 m ρ c = V
    after_results
  rw [e]
  exact broadcastInDim_apply _ _ _ (ix2 0 d) (ix1 d) (fun a => by fin_cases a; rfl)

/-- The normalization's shift, as a row. -/
theorem v12_apply (d : Fin 128) :
    (W3 m ρ c (Proc.devRef .tc main_v12) : FVec Ideal S1x128 .f32) (ix2 0 d) = (m ((c : Thread nD τ).loc main_arg8) : FVec Ideal S128 .f32) (ix1 d) := by
  rw [← W2_args m ρ c main_arg8 (by decide)]
  have e : W3 m ρ c (Proc.devRef .tc main_v12) = broadcastInDim S1x128 ![1] bcast_S128_S1x128_1 (W2 m ρ c (Proc.devRef .tc main_arg8) : FVec Ideal S128 .f32) := by
    show after hostOps0_2 (W2 m ρ c) _ = _
    generalize W2 m ρ c = V
    after_results
  rw [e]
  exact broadcastInDim_apply _ _ _ (ix2 0 d) (ix1 d) (fun a => by fin_cases a; rfl)

/-- The result is the second call's output under a leading axis. -/
theorem v15_apply (t s : Fin 2048) :
    (W6 m ρ c (Proc.devRef .tc main_v15) : FVec Ideal S1x2048x2048 .f32) (ix3 0 t s) = (W5 m ρ c (Proc.devRef .tc main_v14) : FVec Ideal S2048x2048 .f32) (ix2 t s) := by
  have e : W6 m ρ c (Proc.devRef .tc main_v15) = broadcastInDim S1x2048x2048 ![1, 2] bcast_S2048x2048_S1x2048x2048_1_2 (W5 m ρ c (Proc.devRef .tc main_v14) : FVec Ideal S2048x2048 .f32) := by
    show after hostOps2 (W5 m ρ c) _ = _
    generalize W5 m ρ c = V
    after_results
  rw [e]
  exact broadcastInDim_apply _ _ _ (ix3 0 t s) (ix2 t s) (fun a => by fin_cases a <;> rfl)

end Cert.Proof.Host
-- ==== Proof.KernelValue.lean ====
/-
  What the kernel computes from its arguments: the result array, an element at a time.
-/
module

public import proofs.«01_k».proof.Proof.Region0
public import proofs.«01_k».proof.Proof.Region1
public import proofs.«01_k».proof.Proof.Host

@[expose] public section

noncomputable section

namespace Cert.Proof.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The token rows. -/
abbrev arg0 : FVec Ideal S1x2048x2048 .f32 := m ((c : Thread nD τ).loc main_arg0)
/-- The compressed queries. -/
abbrev arg1 : FVec Ideal S1x2048x1536 .f32 := m ((c : Thread nD τ).loc main_arg1)
/-- The cosines. -/
abbrev arg2 : FVec Ideal S2048x32 .f32 := m ((c : Thread nD τ).loc main_arg2)
/-- The sines. -/
abbrev arg3 : FVec Ideal S2048x32 .f32 := m ((c : Thread nD τ).loc main_arg3)
/-- The queries' projection. -/
abbrev arg5 : FVec Ideal S2048x1536 .f32 := m ((c : Thread nD τ).loc main_arg5)
/-- The keys' projection. -/
abbrev arg6 : FVec Ideal S128x2048 .f32 := m ((c : Thread nD τ).loc main_arg6)
/-- The normalization's scale. -/
abbrev arg7 : FVec Ideal S128 .f32 := m ((c : Thread nD τ).loc main_arg7)
/-- The normalization's shift. -/
abbrev arg8 : FVec Ideal S128 .f32 := m ((c : Thread nD τ).loc main_arg8)
/-- The weights' projection. -/
abbrev arg9 : FVec Ideal S16x2048 .f32 := m ((c : Thread nD τ).loc main_arg9)

/-- The score of a query against a key, from the arguments. -/
def score (t s : Fin 2048) : EReal :=
  Spec.score (fun a k => arg0 m c (ValueIdx.ix3 0 a k)) (fun a k => arg1 m c (ValueIdx.ix3 0 a k)) (fun a j => arg2 m c (ValueIdx.ix2 a j))
    (fun a j => arg3 m c (ValueIdx.ix2 a j)) (fun a k => arg5 m c (ValueIdx.ix2 a k)) (fun a k => arg6 m c (ValueIdx.ix2 a k))
    (fun d => arg7 m c (ValueIdx.ix1 d)) (fun d => arg8 m c (ValueIdx.ix1 d)) (fun a k => arg9 m c (ValueIdx.ix2 a k)) t s

/-- The keys the second call reads. -/
theorem keys_eq (s : Fin 2048) (d : Fin 128) :
    Region1.keys (V4 m ρ) c (ValueIdx.ix2 s d)
      = Spec.key (fun a k => arg0 m c (ValueIdx.ix3 0 a k)) (fun a j => arg2 m c (ValueIdx.ix2 a j)) (fun a j => arg3 m c (ValueIdx.ix2 a j))
        (fun a k => arg6 m c (ValueIdx.ix2 a k)) (fun d => arg7 m c (ValueIdx.ix1 d)) (fun d => arg8 m c (ValueIdx.ix1 d)) s d := by
  have e : Region1.keys (V4 m ρ) c = fun i : S2048x128.Idx => Region0.keyAt (V3 m ρ) c (i 0) (i 1) :=
    (W4_arr m ρ c 7).trans (Region0.arr7 (V3 m ρ) c)
  rw [e]
  show Region0.keyAt (V3 m ρ) c s d = _
  unfold Region0.keyAt
  have hn : Region0.normed (V3 m ρ) c s = Spec.norm (fun d => arg7 m c (ValueIdx.ix1 d)) (fun d => arg8 m c (ValueIdx.ix1 d))
      (fun d => ∑ k : Fin 2048, arg0 m c (ValueIdx.ix3 0 s k) * arg6 m c (ValueIdx.ix2 d k)) := by
    unfold Region0.normed
    rw [show (fun d => Region0.scale (V3 m ρ) c (ValueIdx.ix2 (0 : Fin 1) d)) = fun d => arg7 m c (ValueIdx.ix1 d) from funext fun d => Host.v11_apply m ρ c d,
      show (fun d => Region0.shift (V3 m ρ) c (ValueIdx.ix2 (0 : Fin 1) d)) = fun d => arg8 m c (ValueIdx.ix1 d) from funext fun d => Host.v12_apply m ρ c d,
      show (fun d => ∑ k : Fin 2048, Region0.tokens (V3 m ρ) c (ValueIdx.ix2 s k) * Region0.wk (V3 m ρ) c (ValueIdx.ix2 k d))
        = fun d => ∑ k : Fin 2048, arg0 m c (ValueIdx.ix3 0 s k) * arg6 m c (ValueIdx.ix2 d k) from
        funext fun d => Finset.sum_congr rfl fun k _ => congrArg₂ (fun a b : EReal => a * b) (Host.v0_apply m ρ c s k) (Host.v7_apply m ρ c k d)]
  rw [hn, show Region0.cosines (V3 m ρ) c (ValueIdx.ix2 s d) = _ from Host.v4_apply m ρ c s d,
    show Region0.sines (V3 m ρ) c (ValueIdx.ix2 s d) = _ from Host.v6_apply m ρ c s d]
  exact Spec.rope_tables _ _ _ d

/-- The weights the second call reads. -/
theorem weights_eq (t : Fin 2048) (h : Fin 16) :
    Region1.weights (V4 m ρ) c (ValueIdx.ix2 t ⟨h.val, by omega⟩)
      = Spec.weight (fun a k => arg0 m c (ValueIdx.ix3 0 a k)) (fun a k => arg9 m c (ValueIdx.ix2 a k)) t h := by
  have e : Region1.weights (V4 m ρ) c = fun i : S2048x128.Idx => Region0.weightAt (V3 m ρ) c (i 0) (i 1) :=
    (W4_arr m ρ c 8).trans (Region0.arr8 (V3 m ρ) c)
  rw [e]
  show Region0.weightAt (V3 m ρ) c t ⟨h.val, by omega⟩ = _
  unfold Region0.weightAt Spec.weight
  rw [show (∑ k : Fin 2048, Region0.tokens (V3 m ρ) c (ValueIdx.ix2 t k) * Region0.wp (V3 m ρ) c (ValueIdx.ix2 k (⟨h.val, by omega⟩ : Fin 128)))
    = ∑ k : Fin 2048, arg0 m c (ValueIdx.ix3 0 t k) * arg9 m c (ValueIdx.ix2 h k) from
    Finset.sum_congr rfl fun k _ => congrArg₂ (fun a b : EReal => a * b) (Host.v0_apply m ρ c t k) (Host.v9_apply m ρ c k h)]

/-- The queries the second call computes. -/
theorem query_eq (t : Fin 2048) (h : Fin 16) (d : Fin 128) :
    Region1.queryAt (V4 m ρ) c t h d
      = Spec.query (fun a k => arg1 m c (ValueIdx.ix3 0 a k)) (fun a j => arg2 m c (ValueIdx.ix2 a j)) (fun a j => arg3 m c (ValueIdx.ix2 a j))
        (fun a k => arg5 m c (ValueIdx.ix2 a k)) t h d := by
  have hp : ∀ l : Fin 2048, Region1.projected (V4 m ρ) c t l = ∑ k : Fin 1536, arg1 m c (ValueIdx.ix3 0 t k) * arg5 m c (ValueIdx.ix2 l k) := fun l =>
    Finset.sum_congr rfl fun k _ => congrArg₂ (fun a b : EReal => a * b)
      ((congrFun (W4_of m ρ c main_v1 (by decide +kernel)) _).trans (Host.v1_apply m ρ c t k))
      ((congrFun (W4_of m ρ c main_v10 (by decide +kernel)) _).trans (Host.v10_apply m ρ c k l))
  unfold Region1.queryAt
  rw [hp, hp, show Region1.cosines (V4 m ρ) c (ValueIdx.ix2 t d) = _ from (congrFun (W4_of m ρ c main_v4 (by decide +kernel)) _).trans (Host.v4_apply m ρ c t d),
    show Region1.sines (V4 m ρ) c (ValueIdx.ix2 t d) = _ from (congrFun (W4_of m ρ c main_v6 (by decide +kernel)) _).trans (Host.v6_apply m ρ c t d)]
  exact Spec.rope_tables _ _ (fun d => ∑ k : Fin 1536, arg1 m c (ValueIdx.ix3 0 t k) * arg5 m c (ValueIdx.ix2 (Spec.lane h d) k)) d

/-- The scores the second call computes. -/
theorem score_eq (t s : Fin 2048) : Region1.scoreAt (V4 m ρ) c t s = score m c t s := by
  unfold Region1.scoreAt score Spec.score
  rw [show (fun d => Region1.keys (V4 m ρ) c (ValueIdx.ix2 s d)) = _ from funext fun d => keys_eq m ρ c s d,
    show Region1.queryAt (V4 m ρ) c t = _ from funext fun h => funext fun d => query_eq m ρ c t h d,
    show (fun h : Fin 16 => Region1.weights (V4 m ρ) c (ValueIdx.ix2 t (⟨h.val, by omega⟩ : Fin 128))) = _ from funext fun h => weights_eq m ρ c t h]

/-- The result: zero where the score is at or above the value the row's search finds, the masked constant elsewhere. -/
theorem result_apply (t s : Fin 2048) :
    (W6 m ρ c (Proc.devRef .tc main_v15) : FVec Ideal S1x2048x2048 .f32) (ValueIdx.ix3 0 t s)
      = if Search.word (Search.found (score m c t) 1024 32) ≤ score m c t s
        then FloatOps.ofBits (F := Ideal) .f32 0x00000000#32 else FloatOps.ofBits (F := Ideal) .f32 0xCE6E6B28#32 := by
  rw [Host.v15_apply]
  have e : W5 m ρ c (Proc.devRef .tc main_v14) = fun i : S2048x2048.Idx => Region1.outAt (V4 m ρ) c (i 0) (i 1) :=
    (W5_arr m ρ c 6).trans (Region1.arr6 (V4 m ρ) c)
  rw [e]
  show Region1.outAt (V4 m ρ) c t s = _
  unfold Region1.outAt
  rw [show Region1.scoreAt (V4 m ρ) c t = score m c t from funext fun s => score_eq m ρ c t s]

end Cert.Proof.KernelValue
-- ==== Proof.TopK.lean ====
/-
  The host's top-k of a [1, R, N] array along its last axis, over the extended reals: in each row one ordering of the positions, greatest entry first, gives
  the values and the indices of the top-k of every size.
-/
module

public import Idealize.ShloMosaic.PureOps.Ideal
public import Idealize.ShloMosaic.PureOps.ShapeOps
public import Idealize.ShloMosaic.Lib.ValueIdx
public import Idealize.ShloMosaic.Lib.SortFacts
public import Mathlib.Data.Fintype.Card
public import Mathlib.Tactic.FinCases

@[expose] public section

noncomputable section

namespace Cert.Proof.TopK

open Idealize.ShloMosaic Idealize.ShloMosaic.ValueIdx

variable {R N : ℕ}

/-- The comparison top-k sorts by: the first is greater. -/
abbrev gt (a b : EReal) : BitVec 1 := FloatOps.cmpfTotal (F := Ideal) (φ := .f32) .gt a b

theorem gt_iff (a b : EReal) : (gt a b == 1#1) = decide (b < a) := by
  show (BitVec.ofBool (decide (b < a)) == 1#1) = _
  by_cases h : b < a
  · rw [decide_eq_true h]; rfl
  · rw [decide_eq_false h]; rfl

/-- The positions of row `r`, the greatest entry first. -/
def order (x : (⟨3, ![1, R, N]⟩ : Shape).Idx → EReal) (r : Fin R) : Fin N → Fin N :=
  sortedFrom fun a b => gt (x (ix3 (0 : Fin 1) r a)) (x (ix3 (0 : Fin 1) r b)) == 1#1

theorem order_injective (x : (⟨3, ![1, R, N]⟩ : Shape).Idx → EReal) (r : Fin R) : Function.Injective (order x r) :=
  sortedFrom_injective _

theorem order_surjective (x : (⟨3, ![1, R, N]⟩ : Shape).Idx → EReal) (r : Fin R) : Function.Surjective (order x r) :=
  sortedFrom_surjective _

/-- Along the ordering the entries fall. -/
theorem order_anti (x : (⟨3, ![1, R, N]⟩ : Shape).Idx → EReal) (r : Fin R) {i j : Fin N} (h : i ≤ j) :
    x (ix3 (0 : Fin 1) r (order x r j)) ≤ x (ix3 (0 : Fin 1) r (order x r i)) := by
  rcases h.eq_or_lt with rfl | h
  · exact le_rfl
  · have := sortedFrom_noInversion (fun a b => gt (x (ix3 (0 : Fin 1) r a)) (x (ix3 (0 : Fin 1) r b)) == 1#1)
      (fun a b => gt (x (ix3 (0 : Fin 1) r a)) (x (ix3 (0 : Fin 1) r b)) == 1#1)
      (fun a b hab => by rw [gt_iff] at hab ⊢; exact decide_eq_false (lt_asymm (of_decide_eq_true hab)))
      (fun _ _ hab => hab)
      (fun a b c hab hbc => by
        rw [gt_iff] at hab hbc ⊢
        exact decide_eq_false (not_lt.2 ((not_lt.1 (of_decide_eq_false hab)).trans (not_lt.1 (of_decide_eq_false hbc)))))
      i j h
    rw [gt_iff] at this
    exact not_lt.1 (of_decide_eq_false this)

theorem along_ix3 (r : Fin R) (a b : Fin N) :
    Shape.Idx.along (s := ⟨3, ![1, R, N]⟩) (ix3 (0 : Fin 1) r a) (⟨2, Nat.lt_succ_self 2⟩ : Fin 3) b = ix3 (0 : Fin 1) r b := by
  funext d
  fin_cases d <;> rfl

theorem along_eq (r : Fin R) (a : Fin N) :
    (fun b => Shape.Idx.along (s := ⟨3, ![1, R, N]⟩) (ix3 (0 : Fin 1) r a) (⟨2, Nat.lt_succ_self 2⟩ : Fin 3) b)
      = fun b => ix3 (0 : Fin 1) r b := funext (along_ix3 r a)

theorem slice_ix3 {K : ℕ} (h : (⟨3, ![1, R, N]⟩ : Shape).Slices (fun _ => 0) ⟨3, ![1, R, K]⟩) (hK : K ≤ N) (r : Fin R) (j : Fin K) :
    (fun a => ⟨0 + ((ix3 (0 : Fin 1) r j) (a.cast h.1.symm)).val, Nat.lt_of_lt_of_le (Nat.add_lt_add_left (Fin.isLt _) _) (h.2 a)⟩ :
      (⟨3, ![1, R, N]⟩ : Shape).Idx) = ix3 (0 : Fin 1) r (j.castLE hK) := by
  funext d
  apply Fin.ext
  fin_cases d <;> exact Nat.zero_add _

/-- The `j`-th value of the top-k is the entry at the ordering's `j`-th position. -/
theorem topK_val {K : ℕ} (x : (⟨3, ![1, R, N]⟩ : Shape).Idx → EReal) (h : (⟨3, ![1, R, N]⟩ : Shape).Slices (fun _ => 0) ⟨3, ![1, R, K]⟩)
    (hK : K ≤ N) (r : Fin R) (j : Fin K) :
    (Host.topK ⟨3, ![1, R, K]⟩ 2 gt x h).1 (ix3 (0 : Fin 1) r j) = x (ix3 (0 : Fin 1) r (order x r (j.castLE hK))) := by
  unfold Host.topK extractStridedSlice Host.sort2
  simp only [dif_pos (show 2 < (⟨3, ![1, R, N]⟩ : Shape).rank from Nat.lt_succ_self 2)]
  rw [slice_ix3 h hK r j]
  refine (congrArg (fun f : Fin N → (⟨3, ![1, R, N]⟩ : Shape).Idx => x (f (sortedFrom (fun a b => gt (x (f a)) (x (f b)) == 1#1) (⟨0 + j.val, by omega⟩ : Fin N)))) (along_eq r (j.castLE hK))).trans ?_
  show x (ix3 (0 : Fin 1) r (order x r (⟨0 + j.val, by omega⟩ : Fin N))) = _
  rw [show (⟨0 + j.val, by omega⟩ : Fin N) = j.castLE hK from Fin.ext (Nat.zero_add _)]

/-- The `j`-th index of the top-k is the ordering's `j`-th position. -/
theorem topK_idx {K : ℕ} (x : (⟨3, ![1, R, N]⟩ : Shape).Idx → EReal) (h : (⟨3, ![1, R, N]⟩ : Shape).Slices (fun _ => 0) ⟨3, ![1, R, K]⟩)
    (hK : K ≤ N) (r : Fin R) (j : Fin K) :
    (Host.topK ⟨3, ![1, R, K]⟩ 2 gt x h).2 (ix3 (0 : Fin 1) r j) = BitVec.ofNat 32 (order x r (j.castLE hK)).val := by
  unfold Host.topK extractStridedSlice Host.sort2
  simp only [dif_pos (show 2 < (⟨3, ![1, R, N]⟩ : Shape).rank from Nat.lt_succ_self 2)]
  rw [slice_ix3 h hK r j]
  refine (congrArg (fun f : Fin N → (⟨3, ![1, R, N]⟩ : Shape).Idx =>
      (if hd : 2 < 3 then iotaInDim (⟨3, ![1, R, N]⟩ : Shape) 32 (⟨2, hd⟩ : Fin 3)
        (f (sortedFrom (fun a b => gt (x (f a)) (x (f b)) == 1#1) (⟨0 + j.val, by omega⟩ : Fin N))) else 0#32)) (along_eq r (j.castLE hK))).trans ?_
  show BitVec.ofNat 32 (order x r (⟨0 + j.val, by omega⟩ : Fin N)).val = _
  rw [show (⟨0 + j.val, by omega⟩ : Fin N) = j.castLE hK from Fin.ext (Nat.zero_add _)]

/-- The positions of the `K` greatest entries of row `r`. -/
def top (x : (⟨3, ![1, R, N]⟩ : Shape).Idx → EReal) (r : Fin R) (K : ℕ) : Finset (Fin N) :=
  (Finset.univ.filter fun i : Fin N => i.val < K).map ⟨order x r, order_injective x r⟩

theorem card_top (x : (⟨3, ![1, R, N]⟩ : Shape).Idx → EReal) (r : Fin R) (K : ℕ) (hK : K ≤ N) : (top x r K).card = K := by
  unfold top
  rw [Finset.card_map, Fin.card_filter_val_lt, min_eq_right hK]

theorem mem_top (x : (⟨3, ![1, R, N]⟩ : Shape).Idx → EReal) (r : Fin R) (K : ℕ) (s : Fin N) :
    s ∈ top x r K ↔ ∃ i : Fin N, i.val < K ∧ order x r i = s := by
  simp only [top, Finset.mem_map, Finset.mem_filter, Finset.mem_univ, true_and, Function.Embedding.coeFn_mk]

/-- The entries among the `K` greatest are at or above the `K`-th greatest. -/
theorem le_of_mem_top (x : (⟨3, ![1, R, N]⟩ : Shape).Idx → EReal) (r : Fin R) (K : Fin N) (s : Fin N) (h : s ∈ top x r (K.val + 1)) :
    x (ix3 (0 : Fin 1) r (order x r K)) ≤ x (ix3 (0 : Fin 1) r s) := by
  obtain ⟨i, hi, rfl⟩ := (mem_top x r _ s).1 h
  exact order_anti x r (Fin.le_def.2 (by omega))

/-- The entries not among the `K` greatest are at or below the next one. -/
theorem le_of_not_mem_top (x : (⟨3, ![1, R, N]⟩ : Shape).Idx → EReal) (r : Fin R) (K : Fin N) (s : Fin N) (h : s ∉ top x r K.val) :
    x (ix3 (0 : Fin 1) r s) ≤ x (ix3 (0 : Fin 1) r (order x r K)) := by
  obtain ⟨i, rfl⟩ := order_surjective x r s
  refine order_anti x r (Fin.le_def.2 ?_)
  by_contra hi
  exact h ((mem_top x r _ _).2 ⟨i, by omega, rfl⟩)

end Cert.Proof.TopK
-- ==== Proof.RefOut.lean ====
/-
  What the reference returns, read at an index: zero at the positions of the row's top-k of the scores, the constant of the masked positions elsewhere.
-/
module

public import proofs.«01_k».proof.Proof.Gen.ReferenceIdeal.Read
public import proofs.«01_k».proof.Proof.TopK
public import Idealize.ShloMosaic.Lib.Routing.OpsPair
public import Idealize.ShloMosaic.Lib.Routing.OpsSet

@[expose] public section

noncomputable section

namespace Cert.Proof.RefOut

open Cert.ReferenceIdeal Cert.ReferenceIdeal.Gen Cert.ReferenceIdeal.Read
open Idealize.ShloMosaic Idealize.ShloMosaic.ValueIdx Idealize.ShloMosaic.StableHlo

/-- An update of the reference's scatter starts, on axis `q` of the result, at the index word of component `q`, read signed. -/
theorem start_eq (idx : IVec S1x2048x1024x3 32) (t : Fin 2048) (j : Fin 1024) (q : Fin 3) :
    scatter_S1x2048x2048_S1x2048x1024x3_S1x2048x1024_n_012_012_3.start (ix3 (0 : Fin 1) t j) idx q = (idx (ix4 (0 : Fin 1) t j q)).toInt := by
  unfold ScatterDims.start
  have hm : q ∈ scatter_S1x2048x2048_S1x2048x1024x3_S1x2048x1024_n_012_012_3.scatterDimsToOperandDims := by
    show q ∈ ([0, 1, 2] : List (Fin 3))
    fin_cases q <;> decide
  rw [dif_pos hm]
  refine congrArg (fun i => (idx i).toInt) (funext fun b => Fin.ext ?_)
  fin_cases b
  · rfl
  · rfl
  · rfl
  · show List.idxOf q ([0, 1, 2] : List (Fin 3)) = q.val
    fin_cases q <;> rfl

/-- An update of the reference's scatter covers one element: its window coordinate is zero on every axis. -/
theorem window_eq (t : Fin 2048) (j : Fin 1024) (q : Fin 3) :
    scatter_S1x2048x2048_S1x2048x1024x3_S1x2048x1024_n_012_012_3.window (ix3 (0 : Fin 1) t j) q = 0 := by
  unfold ScatterDims.window
  rw [dif_neg]
  show q ∉ (S1x2048x2048.kept [0, 1, 2] : List (Fin 3))
  fin_cases q <;> decide

/-- Update `(0, t, j)` of the reference's scatter lands at `(0, r, s)` exactly when its three index words are `0`, `r` and `s`. -/
theorem lands (idx : IVec S1x2048x1024x3 32) (t : Fin 2048) (j : Fin 1024) (r s : Fin 2048) :
    scatter_S1x2048x2048_S1x2048x1024x3_S1x2048x1024_n_012_012_3.resultIdx? (ix3 (0 : Fin 1) t j) idx = some (ix3 (0 : Fin 1) r s)
      ↔ (idx (ix4 (0 : Fin 1) t j (0 : Fin 3))).toInt = 0 ∧ (idx (ix4 (0 : Fin 1) t j (1 : Fin 3))).toInt = r.val
        ∧ (idx (ix4 (0 : Fin 1) t j (2 : Fin 3))).toInt = s.val := by
  rw [Routing.resultIdx?_eq_some]
  constructor
  · intro h
    have h0 := h 0
    have h1 := h 1
    have h2 := h 2
    rw [start_eq, window_eq] at h0 h1 h2
    exact ⟨by simpa using h0, by simpa using h1, by simpa using h2⟩
  · rintro ⟨h0, h1, h2⟩ q
    rw [start_eq, window_eq]
    fin_cases q
    · simpa using h0
    · simpa using h1
    · simpa using h2

variable (x0 : (⟨S1x2048x2048, .f32⟩ : BufTy).Contents (Elt Ideal)) (x1 : (⟨S1x2048x1536, .f32⟩ : BufTy).Contents (Elt Ideal))
  (x2 x3 : (⟨S2048x32, .f32⟩ : BufTy).Contents (Elt Ideal)) (x4 : (⟨S1x2048x2048, .f32⟩ : BufTy).Contents (Elt Ideal))
  (x5 : (⟨S2048x1536, .f32⟩ : BufTy).Contents (Elt Ideal)) (x6 : (⟨S128x2048, .f32⟩ : BufTy).Contents (Elt Ideal))
  (x7 x8 : (⟨S128, .f32⟩ : BufTy).Contents (Elt Ideal)) (x9 : (⟨S16x2048, .f32⟩ : BufTy).Contents (Elt Ideal))

/-- The scores the reference ranks. -/
abbrev score : S1x2048x2048.Idx → EReal := val_main_v73 (F := Ideal) x0 x1 x2 x3 x4 x5 x6 x7 x8 x9

/-- A word below 2048 is its own reading as a signed number. -/
theorem toInt_small (n : ℕ) (h : n < 2048) : (BitVec.ofNat 32 n).toInt = n := by
  rw [BitVec.toInt_eq_toNat_of_lt (by rw [BitVec.toNat_ofNat]; omega), BitVec.toNat_ofNat]
  omega

/-- The index of a position, wrapped when negative: a position below 2048 stays. -/
theorem wrap_small (n : ℕ) (h : n < 2048) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The scatter's index word 0 of update `(t, j)`: the position of the (single) batch entry. -/
theorem word0 (t : Fin 2048) (j : Fin 1024) :
    val_main_v99 (F := Ideal) x0 x1 x2 x3 x4 x5 x6 x7 x8 x9 (ix4 (0 : Fin 1) t j (0 : Fin 3)) = BitVec.ofNat 32 0 := by
  unfold val_main_v99
  refine (concatenate_apply_piece (t := S1x2048x1024x3) (3 : Fin 4) _ _ _ 0 (by simp) S1x2048x1024x1 _ rfl rfl 0 rfl (ix4 (0 : Fin 1) t j (0 : Fin 1))
    (fun b hb => ?_) rfl).trans ?_
  · fin_cases b <;> first | rfl | exact (hb rfl).elim
  · rw [val_main_v96_apply, val_main_v94_apply, val_main_v83_apply, val_main_v80_apply, val_main_v79_apply, val_main_c_apply, val_main_v76_apply,
      val_main_v75_apply]
    exact wrap_small 0 (by omega) _

/-- The scatter's index word 1 of update `(t, j)`: the row. -/
theorem word1 (t : Fin 2048) (j : Fin 1024) :
    val_main_v99 (F := Ideal) x0 x1 x2 x3 x4 x5 x6 x7 x8 x9 (ix4 (0 : Fin 1) t j (1 : Fin 3)) = BitVec.ofNat 32 t.val := by
  unfold val_main_v99
  refine (concatenate_apply_piece (t := S1x2048x1024x3) (3 : Fin 4) _ _ _ 1 (by simp) S1x2048x1024x1 _ rfl rfl 1 rfl (ix4 (0 : Fin 1) t j (0 : Fin 1))
    (fun b hb => ?_) rfl).trans ?_
  · fin_cases b <;> first | rfl | exact (hb rfl).elim
  · rw [val_main_v97_apply, val_main_v95_apply, val_main_v88_apply, val_main_v85_apply, val_main_v84_apply, val_main_c_8_apply, val_main_v78_apply,
      val_main_v77_apply]
    exact wrap_small t.val t.isLt _

/-- The scatter's index word 2 of update `(t, j)`: the position of the row's `j`-th greatest score. -/
theorem word2 (t : Fin 2048) (j : Fin 1024) :
    val_main_v99 (F := Ideal) x0 x1 x2 x3 x4 x5 x6 x7 x8 x9 (ix4 (0 : Fin 1) t j (2 : Fin 3))
      = BitVec.ofNat 32 (TopK.order (score x0 x1 x2 x3 x4 x5 x6 x7 x8 x9) t (j.castLE (by omega))).val := by
  unfold val_main_v99
  refine (concatenate_apply_piece (t := S1x2048x1024x3) (3 : Fin 4) _ _ _ 2 (by simp) S1x2048x1024x1 _ rfl rfl 2 rfl (ix4 (0 : Fin 1) t j (0 : Fin 1))
    (fun b hb => ?_) rfl).trans ?_
  · fin_cases b <;> first | rfl | exact (hb rfl).elim
  · rw [val_main_v98_apply, val_main_v93_apply, val_main_v90_apply, val_main_v89_apply, val_main_c_10_apply]
    have e : idx_main_v98 (ix4 (0 : Fin 1) t j (0 : Fin 1)) = ix3 (0 : Fin 1) t j := by
      funext d
      fin_cases d <;> rfl
    have h : val_main_indices (F := Ideal) x0 x1 x2 x3 x4 x5 x6 x7 x8 x9 (ix3 (0 : Fin 1) t j)
        = BitVec.ofNat 32 (TopK.order (score x0 x1 x2 x3 x4 x5 x6 x7 x8 x9) t (j.castLE (by omega))).val := by
      unfold val_main_indices
      exact TopK.topK_idx (R := 2048) (N := 2048) (K := 1024) (score x0 x1 x2 x3 x4 x5 x6 x7 x8 x9) _ (by omega) t j
    rw [e, h]
    exact wrap_small _ (Fin.isLt _) _

/-- The reference's result at row `t`, position `s`: zero when `s` is among the row's 1024 greatest scores, else the masked positions' constant. -/
theorem out_apply (t s : Fin 2048) :
    val_main_v101 (F := Ideal) x0 x1 x2 x3 x4 x5 x6 x7 x8 x9 (ix3 (0 : Fin 1) t s)
      = if s ∈ TopK.top (score x0 x1 x2 x3 x4 x5 x6 x7 x8 x9) t 1024 then FloatOps.ofBits (F := Ideal) .f32 0x00000000#32
        else FloatOps.ofBits (F := Ideal) .f32 0xCE6E6B28#32 := by
  unfold val_main_v101
  have hl := lands (val_main_v99 (F := Ideal) x0 x1 x2 x3 x4 x5 x6 x7 x8 x9)
  have hi (k : S1x2048x1024.Idx) : ∃ (r : Fin 2048) (j : Fin 1024), k = ix3 (0 : Fin 1) r j := by
    refine ⟨k 1, k 2, ?_⟩
    funext d
    fin_cases d
    · exact Fin.ext (by have := (k 0).isLt; change (k 0).val < 1 at this; show (k 0).val = 0; omega)
    · rfl
    · rfl
  by_cases hs : s ∈ TopK.top (score x0 x1 x2 x3 x4 x5 x6 x7 x8 x9) t 1024
  · rw [if_pos hs]
    obtain ⟨j, hj, hs⟩ := (TopK.mem_top ..).1 hs
    refine Routing.scatter_set_hit _ _ _ _ _ _ (fun k _ => ?_) (ix3 (0 : Fin 1) t ⟨j.val, hj⟩) ((hl t ⟨j.val, hj⟩ t s).2 ⟨?_, ?_, ?_⟩)
    · rw [val_main_v100_apply, val_main_cst_12_apply]
    · rw [word0]; rfl
    · rw [word1]; exact toInt_small _ t.isLt
    · rw [word2, toInt_small _ (Fin.isLt _), ← hs]; rfl
  · rw [if_neg hs]
    refine (Routing.scatter_set_miss _ _ _ _ _ fun k hk => hs ?_).trans ?_
    · obtain ⟨r, j, rfl⟩ := hi k
      have h := (hl r j t s).1 hk
      rw [word1, word2, toInt_small _ (Fin.isLt _), toInt_small _ (Fin.isLt _)] at h
      have h1 : r = t := Fin.ext (by exact_mod_cast h.2.1)
      rw [h1] at h
      exact (TopK.mem_top ..).2 ⟨j.castLE (by omega), j.isLt, Fin.ext (by exact_mod_cast h.2.2)⟩
    · rw [val_main_v74_apply, val_main_cst_6_apply]

end Cert.Proof.RefOut
-- ==== Proof.RefScore.lean ====
/-
  The reference's scores, read at an index: the formula of the scores plus the mask.
-/
module

public import proofs.«01_k».proof.Proof.Gen.ReferenceIdeal.Read
public import proofs.«01_k».proof.Proof.Spec

@[expose] public section

noncomputable section

namespace Cert.Proof.RefScore

open Cert.ReferenceIdeal Cert.ReferenceIdeal.Gen Cert.ReferenceIdeal.Read
open Idealize.ShloMosaic Idealize.ShloMosaic.ValueIdx Idealize.ShloMosaic.StableHlo

variable (x0 : (⟨S1x2048x2048, .f32⟩ : BufTy).Contents (Elt Ideal)) (x1 : (⟨S1x2048x1536, .f32⟩ : BufTy).Contents (Elt Ideal))
  (x2 x3 : (⟨S2048x32, .f32⟩ : BufTy).Contents (Elt Ideal)) (x4 : (⟨S1x2048x2048, .f32⟩ : BufTy).Contents (Elt Ideal))
  (x5 : (⟨S2048x1536, .f32⟩ : BufTy).Contents (Elt Ideal)) (x6 : (⟨S128x2048, .f32⟩ : BufTy).Contents (Elt Ideal))
  (x7 x8 : (⟨S128, .f32⟩ : BufTy).Contents (Elt Ideal)) (x9 : (⟨S16x2048, .f32⟩ : BufTy).Contents (Elt Ideal))

/-- The f32 word zero is the number zero. -/
theorem zero_word : (FloatOps.ofBits (F := Ideal) .f32 0x00000000#32 : EReal) = 0 := Ideal.ofBits_zero_f32

/-! ### The keys -/

/-- The reference's projection of row `s`. -/
theorem proj_key (s : Fin 2048) (d : Fin 128) :
    val_main_v22 (F := Ideal) x0 x6 (ix3 (0 : Fin 1) s d) = ∑ k : Fin 2048, x0 (ix3 (0 : Fin 1) s k) * x6 (ix2 d k) := by
  rw [val_main_v22_apply]
  refine Finset.sum_congr rfl fun k _ => ?_
  rw [val_main_v21_apply]
  exact congrArg₂ (fun a b => x0 a * x6 b) (funext fun a => by fin_cases a <;> rfl) (funext fun a => by fin_cases a <;> rfl)

/-- Row `s` of the reference's projection. -/
abbrev row (s : Fin 2048) (d : Fin 128) : EReal := val_main_v22 (F := Ideal) x0 x6 (ix3 (0 : Fin 1) s d)

/-- The reference's mean of row `s`. -/
theorem mean_key (s : Fin 2048) : val_main_v26 (F := Ideal) x0 x6 (ix3 (0 : Fin 1) s (0 : Fin 1)) = Spec.mean (row x0 x6 s) := by
  rw [val_main_v26_apply, val_main_v24_apply, val_main_v25_apply, val_main_v23_apply, val_main_cst_apply, val_main_cst_0_apply, zero_word, zero_add]
  refine congrArg (fun e => Ideal.div e _) (Finset.sum_congr rfl fun k _ => ?_)
  exact congrArg (val_main_v22 (F := Ideal) x0 x6) (funext fun a => by fin_cases a <;> rfl)

/-- The reference's distance from the mean, squared and not. -/
theorem dist_key (s : Fin 2048) (d : Fin 128) :
    val_main_v28 (F := Ideal) x0 x6 (ix3 (0 : Fin 1) s d) = row x0 x6 s d - Spec.mean (row x0 x6 s) := by
  rw [val_main_v28_apply, val_main_v27_apply, ← mean_key]
  exact congrArg (fun i => (row x0 x6 s d - val_main_v26 (F := Ideal) x0 x6 i : EReal)) (funext fun a => by fin_cases a <;> rfl)

/-- The same distance, as the reference computes it a second time. -/
theorem dist_key' (s : Fin 2048) (d : Fin 128) :
    val_main_v35 (F := Ideal) x0 x6 (ix3 (0 : Fin 1) s d) = row x0 x6 s d - Spec.mean (row x0 x6 s) := by
  rw [val_main_v35_apply, val_main_v34_apply, ← mean_key]
  exact congrArg (fun i => (row x0 x6 s d - val_main_v26 (F := Ideal) x0 x6 i : EReal)) (funext fun a => by fin_cases a <;> rfl)

/-- The reference's variance of row `s`. -/
theorem var_key (s : Fin 2048) : val_main_v33 (F := Ideal) x0 x6 (ix3 (0 : Fin 1) s (0 : Fin 1)) = Spec.var (row x0 x6 s) := by
  rw [val_main_v33_apply, val_main_v31_apply, val_main_v32_apply, val_main_v30_apply, val_main_cst_1_apply, val_main_cst_2_apply, zero_word, zero_add]
  refine congrArg (fun e => Ideal.div e _) (Finset.sum_congr rfl fun k _ => ?_)
  rw [val_main_v29_apply, ← dist_key]
  exact congrArg (fun i => (val_main_v28 (F := Ideal) x0 x6 i * val_main_v28 (F := Ideal) x0 x6 i : EReal)) (funext fun a => by fin_cases a <;> rfl)

/-- The reference's normalized keys. -/
theorem norm_key (s : Fin 2048) (d : Fin 128) :
    val_main_v46 (F := Ideal) x0 x6 x7 x8 (ix3 (0 : Fin 1) s d) = Spec.norm (fun d => x7 (ix1 d)) (fun d => x8 (ix1 d)) (row x0 x6 s) d := by
  rw [val_main_v46_apply, val_main_v43_apply, val_main_v40_apply, dist_key', val_main_v39_apply, val_main_v38_apply, val_main_v37_apply, val_main_v36_apply,
    val_main_cst_3_apply, val_main_v42_apply, val_main_v41_apply, val_main_v45_apply, val_main_v44_apply]
  unfold Spec.norm
  rw [← var_key]
  have e : (idx_main_v39 (ix3 (0 : Fin 1) s d)) = ix3 (0 : Fin 1) s (0 : Fin 1) := funext fun a => by fin_cases a <;> rfl
  have e7 : idx_main_v41 (idx_main_v42 (ix3 (0 : Fin 1) s d)) = ix1 d := funext fun a => by fin_cases a; rfl
  have e8 : idx_main_v44 (idx_main_v45 (ix3 (0 : Fin 1) s d)) = ix1 d := funext fun a => by fin_cases a; rfl
  rw [e, e7, e8]
  rfl

/-- The first half of the rotated lanes of a key, before the rotation. -/
theorem fst_key (s : Fin 2048) (j : Fin 32) :
    val_main_v50 (F := Ideal) x0 x6 x7 x8 (ix4 (0 : Fin 1) s (0 : Fin 1) j)
      = val_main_v46 (F := Ideal) x0 x6 x7 x8 (ix3 (0 : Fin 1) s (⟨j.val, by omega⟩ : Fin 128)) := by
  rw [val_main_v50_apply, val_main_v49_apply, val_main_v47_apply]
  exact congrArg (val_main_v46 (F := Ideal) x0 x6 x7 x8) (funext fun a => by fin_cases a <;> rfl)

/-- The second half of the rotated lanes of a key, before the rotation. -/
theorem snd_key (s : Fin 2048) (j : Fin 32) :
    val_main_v51 (F := Ideal) x0 x6 x7 x8 (ix4 (0 : Fin 1) s (0 : Fin 1) j)
      = val_main_v46 (F := Ideal) x0 x6 x7 x8 (ix3 (0 : Fin 1) s (⟨j.val + 32, by omega⟩ : Fin 128)) := by
  rw [val_main_v51_apply, val_main_v49_apply, val_main_v47_apply]
  exact congrArg (val_main_v46 (F := Ideal) x0 x6 x7 x8)
    (funext fun a => by fin_cases a <;> first | rfl | exact Fin.ext (Nat.add_comm 32 j.val))

/-- The cosines beside a key. -/
theorem cos_key (s : Fin 2048) (j : Fin 32) : val_main_v52 (F := Ideal) x2 (ix4 (0 : Fin 1) s (0 : Fin 1) j) = x2 (ix2 s j) := by
  rw [val_main_v52_apply]
  exact congrArg x2 (funext fun a => by fin_cases a <;> rfl)

/-- The sines beside a key. -/
theorem sin_key (s : Fin 2048) (j : Fin 32) : val_main_v53 (F := Ideal) x3 (ix4 (0 : Fin 1) s (0 : Fin 1) j) = x3 (ix2 s j) := by
  rw [val_main_v53_apply]
  exact congrArg x3 (funext fun a => by fin_cases a <;> rfl)

/-- Lanes below 64 of a reference key are the rotated ones. -/
theorem low_key (s : Fin 2048) (d : Fin 128) (h : d.val < 64) :
    val_main_v62 (F := Ideal) x0 x2 x3 x6 x7 x8 (ix3 (0 : Fin 1) s d)
      = val_main_v60 (F := Ideal) x0 x2 x3 x6 x7 x8 (ix4 (0 : Fin 1) s (0 : Fin 1) (⟨d.val, h⟩ : Fin 64)) := by
  unfold val_main_v62
  refine (concatenate_pair_apply_left (s₁ := S1x2048x64) (s₂ := S1x2048x64) (t := S1x2048x128) 2 _ _
    concatenates_S1x2048x64_S1x2048x64_S1x2048x128_d2 (ix3 (0 : Fin 1) s d) rfl (ix3 (0 : Fin 1) s (⟨d.val, h⟩ : Fin 64))
    (fun b => by fin_cases b <;> rfl)).trans ?_
  rw [val_main_v61_apply]
  refine congrArg (val_main_v60 (F := Ideal) x0 x2 x3 x6 x7 x8) (funext fun a => Fin.ext ?_)
  have hs := s.isLt
  fin_cases a
  · rfl
  · show ((0 * 2048 + s.val) * 64 + d.val) / 64 % 2048 = s.val
    omega
  · rfl
  · show ((0 * 2048 + s.val) * 64 + d.val) % 64 = d.val
    omega

/-- Lanes from 64 of a reference key are the normalized ones. -/
theorem high_key (s : Fin 2048) (d : Fin 128) (h : 64 ≤ d.val) :
    val_main_v62 (F := Ideal) x0 x2 x3 x6 x7 x8 (ix3 (0 : Fin 1) s d) = val_main_v46 (F := Ideal) x0 x6 x7 x8 (ix3 (0 : Fin 1) s d) := by
  unfold val_main_v62
  refine (concatenate_pair_apply_right (s₁ := S1x2048x64) (s₂ := S1x2048x64) (t := S1x2048x128) 2 _ _
    concatenates_S1x2048x64_S1x2048x64_S1x2048x128_d2 (ix3 (0 : Fin 1) s d) rfl rfl (ix3 (0 : Fin 1) s (⟨d.val - 64, by omega⟩ : Fin 64))
    (fun b hb => by fin_cases b <;> first | rfl | exact absurd rfl hb) (by show d.val - 64 + 64 = d.val; omega)).trans ?_
  rw [val_main_v48_apply]
  refine congrArg (val_main_v46 (F := Ideal) x0 x6 x7 x8) (funext fun a => Fin.ext ?_)
  fin_cases a
  · rfl
  · rfl
  · show 64 + (d.val - 64) = d.val
    omega

/-- The first 32 rotated lanes of a key. -/
theorem rot_fst_key (s : Fin 2048) (j : Fin 32) :
    val_main_v60 (F := Ideal) x0 x2 x3 x6 x7 x8 (ix4 (0 : Fin 1) s (0 : Fin 1) (⟨j.val, by omega⟩ : Fin 64))
      = (val_main_v46 (F := Ideal) x0 x6 x7 x8 (ix3 (0 : Fin 1) s (⟨j.val, by omega⟩ : Fin 128)) * x2 (ix2 s j)
        - val_main_v46 (F := Ideal) x0 x6 x7 x8 (ix3 (0 : Fin 1) s (⟨j.val + 32, by omega⟩ : Fin 128)) * x3 (ix2 s j) : EReal) := by
  unfold val_main_v60
  refine (concatenate_pair_apply_left (s₁ := S1x2048x1x32) (s₂ := S1x2048x1x32) (t := S1x2048x1x64) 3 _ _
    concatenates_S1x2048x1x32_S1x2048x1x32_S1x2048x1x64_d3 _ rfl (ix4 (0 : Fin 1) s (0 : Fin 1) j) (fun b => by fin_cases b <;> rfl)).trans ?_
  rw [val_main_v56_apply, val_main_v54_apply, val_main_v55_apply, fst_key, snd_key, cos_key, sin_key]
  rfl

/-- The next 32 rotated lanes of a key. -/
theorem rot_snd_key (s : Fin 2048) (j : Fin 32) :
    val_main_v60 (F := Ideal) x0 x2 x3 x6 x7 x8 (ix4 (0 : Fin 1) s (0 : Fin 1) (⟨j.val + 32, by omega⟩ : Fin 64))
      = (val_main_v46 (F := Ideal) x0 x6 x7 x8 (ix3 (0 : Fin 1) s (⟨j.val, by omega⟩ : Fin 128)) * x3 (ix2 s j)
        + val_main_v46 (F := Ideal) x0 x6 x7 x8 (ix3 (0 : Fin 1) s (⟨j.val + 32, by omega⟩ : Fin 128)) * x2 (ix2 s j) : EReal) := by
  unfold val_main_v60
  refine (concatenate_pair_apply_right (s₁ := S1x2048x1x32) (s₂ := S1x2048x1x32) (t := S1x2048x1x64) 3 _ _
    concatenates_S1x2048x1x32_S1x2048x1x32_S1x2048x1x64_d3 _ rfl rfl (ix4 (0 : Fin 1) s (0 : Fin 1) j)
    (fun b hb => by fin_cases b <;> first | rfl | exact absurd rfl hb) rfl).trans ?_
  rw [val_main_v59_apply, val_main_v57_apply, val_main_v58_apply, fst_key, snd_key, cos_key, sin_key]
  rfl

/-- The reference's keys: normalized, then rotated. -/
theorem key_eq (s : Fin 2048) (d : Fin 128) :
    val_main_v62 (F := Ideal) x0 x2 x3 x6 x7 x8 (ix3 (0 : Fin 1) s d)
      = Spec.key (fun a k => x0 (ix3 (0 : Fin 1) a k)) (fun a j => x2 (ix2 a j)) (fun a j => x3 (ix2 a j)) (fun a k => x6 (ix2 a k))
          (fun d => x7 (ix1 d)) (fun d => x8 (ix1 d)) s d := by
  have hrow : (fun d => ∑ k : Fin 2048, x0 (ix3 (0 : Fin 1) s k) * x6 (ix2 d k)) = row x0 x6 s := funext fun d => (proj_key x0 x6 s d).symm
  have hn : Spec.norm (fun d => x7 (ix1 d)) (fun d => x8 (ix1 d)) (row x0 x6 s)
      = fun d => val_main_v46 (F := Ideal) x0 x6 x7 x8 (ix3 (0 : Fin 1) s d) := funext fun d => (norm_key x0 x6 x7 x8 s d).symm
  unfold Spec.key
  rw [hrow, hn]
  unfold Spec.rope
  by_cases h : d.val < 32
  · rw [dif_pos h, low_key _ _ _ _ _ _ _ _ (by omega)]
    exact rot_fst_key x0 x2 x3 x6 x7 x8 s ⟨d.val, h⟩
  · by_cases h2 : d.val < 64
    · have e : d = (⟨(d.val - 32) + 32, by omega⟩ : Fin 128) := Fin.ext (by show d.val = d.val - 32 + 32; omega)
      have e2 : (⟨d.val, h2⟩ : Fin 64) = ⟨(d.val - 32) + 32, by omega⟩ := Fin.ext (by show d.val = d.val - 32 + 32; omega)
      rw [dif_neg h, dif_pos h2, low_key _ _ _ _ _ _ _ _ h2, e2]
      refine (rot_snd_key x0 x2 x3 x6 x7 x8 s ⟨d.val - 32, by omega⟩).trans ?_
      exact congrArg (fun q : Fin 128 => (_ + val_main_v46 (F := Ideal) x0 x6 x7 x8 (ix3 (0 : Fin 1) s q) * _ : EReal)) e.symm
    · rw [dif_neg h, dif_neg h2, high_key _ _ _ _ _ _ _ _ (by omega)]

/-! ### The queries -/

/-- The reference's projection of row `t` to head `h`. -/
theorem proj_query (t : Fin 2048) (h : Fin 16) (d : Fin 128) :
    val_main_v2 (F := Ideal) x1 x5 (ix4 (0 : Fin 1) t h d) = ∑ k : Fin 1536, x1 (ix3 (0 : Fin 1) t k) * x5 (ix2 (Spec.lane h d) k) := by
  have ht := t.isLt
  have hh := h.isLt
  have hd := d.isLt
  have e : idx_main_v2 (ix4 (0 : Fin 1) t h d) = ix3 (0 : Fin 1) t (Spec.lane h d) := funext fun a => Fin.ext (by
    fin_cases a
    · rfl
    · show (((0 * 2048 + t.val) * 16 + h.val) * 128 + d.val) / 2048 % 2048 = t.val
      omega
    · show (((0 * 2048 + t.val) * 16 + h.val) * 128 + d.val) % 2048 = h.val * 128 + d.val
      omega)
  rw [val_main_v2_apply, e, val_main_v1_apply]
  refine Finset.sum_congr rfl fun k _ => ?_
  rw [val_main_v0_apply]
  exact congrArg₂ (fun a b => x1 a * x5 b) (funext fun a => by fin_cases a <;> rfl) (funext fun a => by fin_cases a <;> rfl)

/-- The first half of the rotated lanes of a head, before the rotation. -/
theorem fst_query (t : Fin 2048) (h : Fin 16) (j : Fin 32) :
    val_main_v5 (F := Ideal) x1 x5 (ix4 (0 : Fin 1) t h j) = val_main_v2 (F := Ideal) x1 x5 (ix4 (0 : Fin 1) t h (⟨j.val, by omega⟩ : Fin 128)) := by
  rw [val_main_v5_apply, val_main_v3_apply]
  exact congrArg (val_main_v2 (F := Ideal) x1 x5) (funext fun a => by fin_cases a <;> rfl)

/-- The second half of the rotated lanes of a head, before the rotation. -/
theorem snd_query (t : Fin 2048) (h : Fin 16) (j : Fin 32) :
    val_main_v6 (F := Ideal) x1 x5 (ix4 (0 : Fin 1) t h j)
      = val_main_v2 (F := Ideal) x1 x5 (ix4 (0 : Fin 1) t h (⟨j.val + 32, by omega⟩ : Fin 128)) := by
  rw [val_main_v6_apply, val_main_v3_apply]
  exact congrArg (val_main_v2 (F := Ideal) x1 x5) (funext fun a => by fin_cases a <;> first | rfl | exact Fin.ext (Nat.add_comm 32 j.val))

/-- The cosines and sines beside a head, each read twice. -/
theorem tables_query (t : Fin 2048) (h : Fin 16) (j : Fin 32) :
    val_main_v9 (F := Ideal) x2 (ix4 (0 : Fin 1) t h j) = x2 (ix2 t j) ∧ val_main_v16 (F := Ideal) x2 (ix4 (0 : Fin 1) t h j) = x2 (ix2 t j)
      ∧ val_main_v11 (F := Ideal) x3 (ix4 (0 : Fin 1) t h j) = x3 (ix2 t j) ∧ val_main_v14 (F := Ideal) x3 (ix4 (0 : Fin 1) t h j) = x3 (ix2 t j) := by
  refine ⟨?_, ?_, ?_, ?_⟩
  · rw [val_main_v9_apply, val_main_v7_apply]
    exact congrArg x2 (funext fun a => by fin_cases a <;> rfl)
  · rw [val_main_v16_apply, val_main_v7_apply]
    exact congrArg x2 (funext fun a => by fin_cases a <;> rfl)
  · rw [val_main_v11_apply, val_main_v8_apply]
    exact congrArg x3 (funext fun a => by fin_cases a <;> rfl)
  · rw [val_main_v14_apply, val_main_v8_apply]
    exact congrArg x3 (funext fun a => by fin_cases a <;> rfl)

/-- Lanes below 64 of a reference head are the rotated ones. -/
theorem low_query (t : Fin 2048) (h : Fin 16) (d : Fin 128) (hd : d.val < 64) :
    val_main_v20 (F := Ideal) x1 x2 x3 x5 (ix4 (0 : Fin 1) t h d) = val_main_v19 (F := Ideal) x1 x2 x3 x5 (ix4 (0 : Fin 1) t h (⟨d.val, hd⟩ : Fin 64)) := by
  unfold val_main_v20
  exact concatenate_pair_apply_left (s₁ := S1x2048x16x64) (s₂ := S1x2048x16x64) (t := S1x2048x16x128) 3 _ _
    concatenates_S1x2048x16x64_S1x2048x16x64_S1x2048x16x128_d3 _ rfl (ix4 (0 : Fin 1) t h (⟨d.val, hd⟩ : Fin 64)) (fun b => by fin_cases b <;> rfl)

/-- Lanes from 64 of a reference head are the projected ones. -/
theorem high_query (t : Fin 2048) (h : Fin 16) (d : Fin 128) (hd : 64 ≤ d.val) :
    val_main_v20 (F := Ideal) x1 x2 x3 x5 (ix4 (0 : Fin 1) t h d) = val_main_v2 (F := Ideal) x1 x5 (ix4 (0 : Fin 1) t h d) := by
  unfold val_main_v20
  refine (concatenate_pair_apply_right (s₁ := S1x2048x16x64) (s₂ := S1x2048x16x64) (t := S1x2048x16x128) 3 _ _
    concatenates_S1x2048x16x64_S1x2048x16x64_S1x2048x16x128_d3 _ rfl rfl (ix4 (0 : Fin 1) t h (⟨d.val - 64, by omega⟩ : Fin 64))
    (fun b hb => by fin_cases b <;> first | rfl | exact absurd rfl hb) (by show d.val - 64 + 64 = d.val; omega)).trans ?_
  rw [val_main_v4_apply]
  refine congrArg (val_main_v2 (F := Ideal) x1 x5) (funext fun a => Fin.ext ?_)
  fin_cases a
  · rfl
  · rfl
  · rfl
  · show 64 + (d.val - 64) = d.val
    omega

/-- The first 32 rotated lanes of a head. -/
theorem rot_fst_query (t : Fin 2048) (h : Fin 16) (j : Fin 32) :
    val_main_v19 (F := Ideal) x1 x2 x3 x5 (ix4 (0 : Fin 1) t h (⟨j.val, by omega⟩ : Fin 64))
      = (val_main_v2 (F := Ideal) x1 x5 (ix4 (0 : Fin 1) t h (⟨j.val, by omega⟩ : Fin 128)) * x2 (ix2 t j)
        - val_main_v2 (F := Ideal) x1 x5 (ix4 (0 : Fin 1) t h (⟨j.val + 32, by omega⟩ : Fin 128)) * x3 (ix2 t j) : EReal) := by
  unfold val_main_v19
  refine (concatenate_pair_apply_left (s₁ := S1x2048x16x32) (s₂ := S1x2048x16x32) (t := S1x2048x16x64) 3 _ _
    concatenates_S1x2048x16x32_S1x2048x16x32_S1x2048x16x64_d3 _ rfl (ix4 (0 : Fin 1) t h j) (fun b => by fin_cases b <;> rfl)).trans ?_
  obtain ⟨c1, -, s1, -⟩ := tables_query x2 x3 t h j
  rw [val_main_v13_apply, val_main_v10_apply, val_main_v12_apply, fst_query, snd_query, c1, s1]
  rfl

/-- The next 32 rotated lanes of a head. -/
theorem rot_snd_query (t : Fin 2048) (h : Fin 16) (j : Fin 32) :
    val_main_v19 (F := Ideal) x1 x2 x3 x5 (ix4 (0 : Fin 1) t h (⟨j.val + 32, by omega⟩ : Fin 64))
      = (val_main_v2 (F := Ideal) x1 x5 (ix4 (0 : Fin 1) t h (⟨j.val, by omega⟩ : Fin 128)) * x3 (ix2 t j)
        + val_main_v2 (F := Ideal) x1 x5 (ix4 (0 : Fin 1) t h (⟨j.val + 32, by omega⟩ : Fin 128)) * x2 (ix2 t j) : EReal) := by
  unfold val_main_v19
  refine (concatenate_pair_apply_right (s₁ := S1x2048x16x32) (s₂ := S1x2048x16x32) (t := S1x2048x16x64) 3 _ _
    concatenates_S1x2048x16x32_S1x2048x16x32_S1x2048x16x64_d3 _ rfl rfl (ix4 (0 : Fin 1) t h j)
    (fun b hb => by fin_cases b <;> first | rfl | exact absurd rfl hb) rfl).trans ?_
  obtain ⟨-, c2, -, s2⟩ := tables_query x2 x3 t h j
  rw [val_main_v18_apply, val_main_v15_apply, val_main_v17_apply, fst_query, snd_query, c2, s2]
  rfl

/-- The reference's queries: projected, then rotated. -/
theorem query_eq (t : Fin 2048) (h : Fin 16) (d : Fin 128) :
    val_main_v20 (F := Ideal) x1 x2 x3 x5 (ix4 (0 : Fin 1) t h d)
      = Spec.query (fun a k => x1 (ix3 (0 : Fin 1) a k)) (fun a j => x2 (ix2 a j)) (fun a j => x3 (ix2 a j)) (fun a k => x5 (ix2 a k)) t h d := by
  have hrow : (fun d => ∑ k : Fin 1536, x1 (ix3 (0 : Fin 1) t k) * x5 (ix2 (Spec.lane h d) k))
      = fun d => val_main_v2 (F := Ideal) x1 x5 (ix4 (0 : Fin 1) t h d) := funext fun d => (proj_query x1 x5 t h d).symm
  unfold Spec.query
  rw [hrow]
  unfold Spec.rope
  by_cases h1 : d.val < 32
  · rw [dif_pos h1, low_query _ _ _ _ _ _ _ (by omega)]
    exact rot_fst_query x1 x2 x3 x5 t h ⟨d.val, h1⟩
  · by_cases h2 : d.val < 64
    · have e : d = (⟨(d.val - 32) + 32, by omega⟩ : Fin 128) := Fin.ext (by show d.val = d.val - 32 + 32; omega)
      have e2 : (⟨d.val, h2⟩ : Fin 64) = ⟨(d.val - 32) + 32, by omega⟩ := Fin.ext (by show d.val = d.val - 32 + 32; omega)
      rw [dif_neg h1, dif_pos h2, low_query _ _ _ _ _ _ _ h2, e2]
      refine (rot_snd_query x1 x2 x3 x5 t h ⟨d.val - 32, by omega⟩).trans ?_
      exact congrArg (fun q : Fin 128 => (_ + val_main_v2 (F := Ideal) x1 x5 (ix4 (0 : Fin 1) t h q) * _ : EReal)) e.symm
    · rw [dif_neg h1, dif_neg h2, high_query _ _ _ _ _ _ _ (by omega)]

/-! ### The weights and the scores -/

/-- The reference's head weights. -/
theorem weight_eq (t : Fin 2048) (h : Fin 16) :
    val_main_v68 (F := Ideal) x0 x9 (ix3 (0 : Fin 1) t h) = Spec.weight (fun a k => x0 (ix3 (0 : Fin 1) a k)) (fun a k => x9 (ix2 a k)) t h := by
  rw [val_main_v68_apply, val_main_v66_apply, val_main_v67_apply, val_main_v65_apply, val_main_cst_4_apply, val_main_cst_5_apply, val_main_v64_apply]
  unfold Spec.weight
  refine congrArg (fun e : EReal => e * _ * _) (Finset.sum_congr rfl fun k _ => ?_)
  rw [val_main_v63_apply]
  exact congrArg₂ (fun a b => x0 a * x9 b) (funext fun a => by fin_cases a <;> rfl) (funext fun a => by fin_cases a <;> rfl)

/-- The reference's scores: the formula plus the mask. -/
theorem score_eq (t s : Fin 2048) :
    val_main_v73 (F := Ideal) x0 x1 x2 x3 x4 x5 x6 x7 x8 x9 (ix3 (0 : Fin 1) t s)
      = (Spec.score (fun a k => x0 (ix3 (0 : Fin 1) a k)) (fun a k => x1 (ix3 (0 : Fin 1) a k)) (fun a j => x2 (ix2 a j)) (fun a j => x3 (ix2 a j))
          (fun a k => x5 (ix2 a k)) (fun a k => x6 (ix2 a k)) (fun d => x7 (ix1 d)) (fun d => x8 (ix1 d)) (fun a k => x9 (ix2 a k)) t s
        + x4 (ix3 (0 : Fin 1) t s) : EReal) := by
  rw [val_main_v73_apply, val_main_v72_apply]
  unfold Spec.score Spec.combine
  refine congrArg (fun e : EReal => e + x4 (ix3 (0 : Fin 1) t s)) (Finset.sum_congr rfl fun h _ => ?_)
  have el : ridx_main_v72 (ix3 (0 : Fin 1) t s) h = ix3 (0 : Fin 1) t h := funext fun a => by fin_cases a <;> rfl
  rw [el, weight_eq, val_main_v71_apply, val_main_v70_apply, val_main_v69_apply, val_main_call0_v0_apply]
  refine congrArg (fun e : EReal => e * _) (congrArg₂ (fun a b : EReal => max a b) (Finset.sum_congr rfl fun d _ => ?_) zero_word)
  rw [← key_eq, ← query_eq]
  exact congrArg₂ (fun a b => (val_main_v62 (F := Ideal) x0 x2 x3 x6 x7 x8 a * val_main_v20 (F := Ideal) x1 x2 x3 x5 b : EReal))
    (funext fun a => by fin_cases a <;> rfl) (funext fun a => by fin_cases a <;> rfl)

end Cert.Proof.RefScore
-- ==== Proof.Pred.lean ====
/-
  What the precondition says: the mask is zero, and in every row the 1024-th greatest score is at most 2^126 in magnitude and stands above the 1025-th by at
  least one unit in its last place.
-/
module

public import proofs.«01_k».proof.Proof.Gen.Pre_separated
public import proofs.«01_k».proof.Proof.RefOut
public import proofs.«01_k».proof.Proof.Keys
public import Idealize.ShloMosaic.Lib.ReduceAll

@[expose] public section

noncomputable section

namespace Cert.Proof.Pred

open Cert.Pre_separated Cert.Pre_separated.Gen
open Idealize.ShloMosaic Idealize.ShloMosaic.ValueIdx Idealize.ShloMosaic.StableHlo

/-- The 1024-th greatest score of each row, from the top-k of size 1025. -/
def kth (sc : FVec Ideal S1x2048x2048 .f32) : FVec Ideal S1x2048 .f32 :=
  shapeCast S1x2048 (extractStridedSlice S1x2048x1 ![0, 0, 1023]
    ((Host.topK S1x2048x1025 2 (FloatOps.cmpfTotal .gt) sc sliceFits_S1x2048x2048_S1x2048x1025).1) slices_S1x2048x1025_S1x2048x1_0_0_1023)
    shapeCasts_S1x2048x1_S1x2048

/-- The 1025-th greatest score of each row. -/
def nxt (sc : FVec Ideal S1x2048x2048 .f32) : FVec Ideal S1x2048 .f32 :=
  shapeCast S1x2048 (extractStridedSlice S1x2048x1 ![0, 0, 1024]
    ((Host.topK S1x2048x1025 2 (FloatOps.cmpfTotal .gt) sc sliceFits_S1x2048x2048_S1x2048x1025).1) slices_S1x2048x1025_S1x2048x1_0_0_1024)
    shapeCasts_S1x2048x1_S1x2048

/-- A literal at every index of a `[1, 2048]` array. -/
def lit (b : BitVec 32) : FVec Ideal S1x2048 .f32 := broadcastInDim S1x2048 ![] bcast_S_S1x2048 (constant S_ .f32 b)

/-- The condition of one row, for every row. -/
def rows (sc : FVec Ideal S1x2048x2048 .f32) : IVec S1x2048 1 :=
  andi (andi (cmpf .ole (Host.absf (kth sc)) (lit 0x7E800000#32))
      (cmpf .oge (subf (kth sc) (nxt sc)) (mulf (Host.absf (kth sc)) (lit 0x34000000#32))))
    (cmpf .oge (subf (kth sc) (nxt sc)) (lit 0x00800000#32))

/-- The precondition as a function of the scores and the mask. -/
def whole (sc mask : FVec Ideal S1x2048x2048 .f32) : IVec S_ 1 :=
  andi (Host.reduce IntOp.andi (cmpf .oeq mask (broadcastInDim S1x2048x2048 ![] bcast_S_S1x2048x2048 (constant S_ .f32 0x00000000#32)))
      (constantI S_ 1 1#1) reducesTo_S1x2048x2048_S_d0_1_2 h_S_)
    (Host.reduce IntOp.andi (rows sc) (constantI S_ 1 1#1) reducesTo_S1x2048_S_d0_1 h_S_)

variable (x0 : FVec Ideal S1x2048x2048 .f32) (x1 : FVec Ideal S1x2048x1536 .f32) (x2 x3 : FVec Ideal S2048x32 .f32)
  (x4 : FVec Ideal S1x2048x2048 .f32) (x5 : FVec Ideal S2048x1536 .f32) (x6 : FVec Ideal S128x2048 .f32) (x7 x8 : FVec Ideal S128 .f32)
  (x9 : FVec Ideal S16x2048 .f32)

/-- The precondition's scores are the reference's. -/
theorem fn_eq : fn (F := Ideal) x0 x1 x2 x3 x4 x5 x6 x7 x8 x9 = whole (RefOut.score x0 x1 x2 x3 x4 x5 x6 x7 x8 x9) x4 := rfl

/-- The row's 1024-th greatest score, in the order of the row's top-k. -/
theorem kth_apply (sc : FVec Ideal S1x2048x2048 .f32) (t : Fin 2048) :
    kth sc (ix2 (0 : Fin 1) t) = sc (ix3 (0 : Fin 1) t (TopK.order (R := 2048) (N := 2048) sc t (⟨1023, by omega⟩ : Fin 2048))) := by
  unfold kth
  refine (shapeCast_apply _ _ (ix2 (0 : Fin 1) t) (ix3 (0 : Fin 1) t (0 : Fin 1)) ?_).trans ?_
  · rw [Shape.rowMajor_val_three, Shape.rowMajor_val_two]
    show (0 * 2048 + t.val) * 1 + 0 = 0 * 2048 + t.val
    omega
  · refine (extractStridedSlice_apply _ _ _ (ix3 (0 : Fin 1) t (0 : Fin 1)) (ix3 (0 : Fin 1) t (⟨1023, by omega⟩ : Fin 1025)) ?_).trans ?_
    · intro a
      fin_cases a
      · rfl
      · exact (Nat.zero_add _).symm
      · rfl
    · exact TopK.topK_val (R := 2048) (N := 2048) (K := 1025) sc _ (by omega) t _

/-- The row's 1025-th greatest score, in the order of the row's top-k. -/
theorem nxt_apply (sc : FVec Ideal S1x2048x2048 .f32) (t : Fin 2048) :
    nxt sc (ix2 (0 : Fin 1) t) = sc (ix3 (0 : Fin 1) t (TopK.order (R := 2048) (N := 2048) sc t (⟨1024, by omega⟩ : Fin 2048))) := by
  unfold nxt
  refine (shapeCast_apply _ _ (ix2 (0 : Fin 1) t) (ix3 (0 : Fin 1) t (0 : Fin 1)) ?_).trans ?_
  · rw [Shape.rowMajor_val_three, Shape.rowMajor_val_two]
    show (0 * 2048 + t.val) * 1 + 0 = 0 * 2048 + t.val
    omega
  · refine (extractStridedSlice_apply _ _ _ (ix3 (0 : Fin 1) t (0 : Fin 1)) (ix3 (0 : Fin 1) t (⟨1024, by omega⟩ : Fin 1025)) ?_).trans ?_
    · intro a
      fin_cases a
      · rfl
      · exact (Nat.zero_add _).symm
      · rfl
    · exact TopK.topK_val (R := 2048) (N := 2048) (K := 1025) sc _ (by omega) t _

/-- The first literal is 2^126. -/
theorem big_eq : Ideal.ieee 8 23 0x7E800000#32 = (((2 : ℝ) ^ (126 : ℕ) : ℝ) : EReal) := by
  rw [Keys.ieee_pos _ (by norm_num [Keys.infWord]), show (0x7E800000#32 : BitVec 32).toNat = 253 * 2 ^ 23 from rfl, Keys.mag, if_pos (by norm_num [Keys.infWord]), Keys.magReal_big]

/-- The second literal is 2^-23. -/
theorem eps_eq : Ideal.ieee 8 23 0x34000000#32 = (((2 : ℝ) ^ (-23 : ℤ) : ℝ) : EReal) := by
  rw [Keys.ieee_pos _ (by norm_num [Keys.infWord]), show (0x34000000#32 : BitVec 32).toNat = 104 * 2 ^ 23 from rfl, Keys.mag, if_pos (by norm_num [Keys.infWord]), Keys.magReal]
  norm_num

/-- The third literal is 2^-126. -/
theorem tiny_eq : Ideal.ieee 8 23 0x00800000#32 = (((2 : ℝ) ^ (-126 : ℤ) : ℝ) : EReal) := by
  rw [Keys.ieee_pos _ (by norm_num [Keys.infWord]), show (0x00800000#32 : BitVec 32).toNat = 1 * 2 ^ 23 from rfl, Keys.mag, if_pos (by norm_num [Keys.infWord]), Keys.magReal]
  norm_num

/-- The row condition on two extended reals: the first is a real of magnitude at most 2^126 and the second is at most the first less one unit in its last place. -/
theorem row_real (a b : EReal) (h1 : max a (-a) ≤ (((2 : ℝ) ^ (126 : ℕ) : ℝ) : EReal))
    (h2 : max a (-a) * (((2 : ℝ) ^ (-23 : ℤ) : ℝ) : EReal) ≤ a - b) (h3 : (((2 : ℝ) ^ (-126 : ℤ) : ℝ) : EReal) ≤ a - b) :
    ∃ v : ℝ, a = v ∧ |v| ≤ (2 : ℝ) ^ (126 : ℕ) ∧ b ≤ ((v - max ((2 : ℝ) ^ (-149 : ℤ)) (|v| * (2 : ℝ) ^ (-23 : ℤ)) : ℝ) : EReal) := by
  induction a using EReal.rec with
  | bot => exact absurd ((le_max_right _ _).trans h1) (by rw [EReal.neg_bot]; exact not_le.2 (EReal.coe_lt_top _))
  | top => exact absurd ((le_max_left _ _).trans h1) (not_le.2 (EReal.coe_lt_top _))
  | coe v =>
    have hm : max (v : EReal) (-(v : EReal)) = ((|v| : ℝ) : EReal) := by
      rw [← EReal.coe_neg, abs_eq_max_neg]
      exact (EReal.coe_strictMono.monotone.map_max).symm
    rw [hm] at h1 h2
    refine ⟨v, rfl, EReal.coe_le_coe_iff.1 h1, ?_⟩
    induction b using EReal.rec with
    | bot => exact bot_le
    | top =>
      rw [EReal.sub_top] at h3
      exact absurd h3 (not_le.2 (EReal.bot_lt_coe _))
    | coe w =>
      rw [← EReal.coe_sub, EReal.coe_le_coe_iff] at h3
      rw [← EReal.coe_mul, ← EReal.coe_sub, EReal.coe_le_coe_iff] at h2
      rw [EReal.coe_le_coe_iff]
      have h4 : (2 : ℝ) ^ (-149 : ℤ) ≤ (2 : ℝ) ^ (-126 : ℤ) := zpow_le_zpow_right₀ (by norm_num) (by norm_num)
      have h5 : max ((2 : ℝ) ^ (-149 : ℤ)) (|v| * (2 : ℝ) ^ (-23 : ℤ)) ≤ v - w := max_le (h4.trans h3) h2
      linarith

/-- A comparison that came out true holds. -/
theorem ofBool_one {p : Prop} [Decidable p] (h : BitVec.ofBool (decide p) = 1#1) : p := by
  by_contra hp
  rw [decide_eq_false hp] at h
  exact absurd h (by decide)

/-- Where the precondition holds, the mask is zero everywhere. -/
theorem mask_zero (sc mask : FVec Ideal S1x2048x2048 .f32) (h : whole sc mask = fun _ => 1#1) (i : S1x2048x2048.Idx) : mask i = (0 : EReal) := by
  have e := congrFun h (Shape.Idx.first h_S_)
  have h1 := (IntOp.andi_eq_one.1 e).1
  have : Subsingleton S_.Idx := ⟨fun a b => funext fun d => d.elim0⟩
  have h2 := Host.reduce_andi_all _ _ _ _ _ h1 i
  have h3 : mask i = Ideal.ofBits .f32 0x00000000#32 := ofBool_one h2
  rw [h3, Ideal.ofBits_zero_f32]

/-- Where the precondition holds, every row's 1024-th greatest score is a real of magnitude at most 2^126 that stands above the 1025-th by at least one unit in
    its last place. -/
theorem row_separated (sc mask : FVec Ideal S1x2048x2048 .f32) (h : whole sc mask = fun _ => 1#1) (t : Fin 2048) :
    ∃ v : ℝ, sc (ix3 (0 : Fin 1) t (TopK.order (R := 2048) (N := 2048) sc t (⟨1023, by omega⟩ : Fin 2048))) = (v : EReal) ∧ |v| ≤ (2 : ℝ) ^ (126 : ℕ)
      ∧ sc (ix3 (0 : Fin 1) t (TopK.order (R := 2048) (N := 2048) sc t (⟨1024, by omega⟩ : Fin 2048)))
        ≤ ((v - max ((2 : ℝ) ^ (-149 : ℤ)) (|v| * (2 : ℝ) ^ (-23 : ℤ)) : ℝ) : EReal) := by
  have e := congrFun h (Shape.Idx.first h_S_)
  have h1 := (IntOp.andi_eq_one.1 e).2
  have : Subsingleton S_.Idx := ⟨fun a b => funext fun d => d.elim0⟩
  have h2 := Host.reduce_andi_all _ _ _ _ _ h1 (ix2 (0 : Fin 1) t)
  obtain ⟨h3, h4⟩ := IntOp.andi_eq_one.1 h2
  obtain ⟨h5, h6⟩ := IntOp.andi_eq_one.1 h3
  rw [← kth_apply sc t, ← nxt_apply sc t]
  refine row_real _ _ ?_ ?_ ?_
  · rw [← big_eq]
    exact ofBool_one h5
  · rw [← eps_eq]
    exact ofBool_one h6
  · rw [← tiny_eq]
    exact ofBool_one h4

end Cert.Proof.Pred
-- ==== Proof.Equal.lean ====
/-
  The two results are the same array: where the mask is zero and every row's 1024-th score stands clear of the next, the scores at or above the value the
  kernel's search finds are exactly the reference's top 1024.
-/
module

public import proofs.«01_k».proof.Proof.KernelValue
public import proofs.«01_k».proof.Proof.RefOut
public import proofs.«01_k».proof.Proof.RefScore
public import proofs.«01_k».proof.Proof.Pred

@[expose] public section

noncomputable section

namespace Cert.Proof.Equal

open Cert.KernelIdeal Cert.KernelIdeal.Gen
open Idealize.ShloMosaic Idealize.ShloMosaic.TcCoe Idealize.SL.Sem

/-- In a separated row, the entries at or above the value the search finds are the row's top 1024. -/
theorem search_eq_top (sc mask : S1x2048x2048.Idx → EReal) (h : Pred.whole sc mask = fun _ => 1#1) (t s : Fin 2048) :
    Search.word (Search.found (fun s => sc (ValueIdx.ix3 0 t s)) 1024 32) ≤ sc (ValueIdx.ix3 0 t s) ↔ s ∈ TopK.top sc t 1024 := by
  obtain ⟨v, hv, hb, hgap⟩ := Pred.row_separated sc mask h t
  refine Search.found_spec (fun s => sc (ValueIdx.ix3 0 t s)) 1024 (by norm_num) (TopK.top sc t 1024) (TopK.card_top sc t 1024 (by norm_num)) v _
    (fun j hj => hv ▸ TopK.le_of_mem_top sc t (⟨1023, by omega⟩ : Fin 2048) j hj)
    ⟨_, (TopK.mem_top sc t 1024 _).2 ⟨(⟨1023, by omega⟩ : Fin 2048), by norm_num, rfl⟩, hv⟩
    (fun j hj => TopK.le_of_not_mem_top sc t (⟨1024, by omega⟩ : Fin 2048) j hj) hb hgap s

variable (m : (ℓ : Loc nD τ sig) → Buf (Elt Ideal) ℓ) (ρ : Dev nD → PrngReg) (c : Dev nD)

/-- The mask. -/
abbrev arg4 : FVec Ideal S1x2048x2048 .f32 := m ((c : Thread nD τ).loc main_arg4)

/-- The reference's scores at the kernel's arguments. -/
abbrev refScore : S1x2048x2048.Idx → EReal :=
  RefOut.score (KernelValue.arg0 m c) (KernelValue.arg1 m c) (KernelValue.arg2 m c) (KernelValue.arg3 m c) (arg4 m c) (KernelValue.arg5 m c)
    (KernelValue.arg6 m c) (KernelValue.arg7 m c) (KernelValue.arg8 m c) (KernelValue.arg9 m c)

/-- The reference's result at the kernel's arguments. -/
abbrev refOut : FVec Ideal S1x2048x2048 .f32 :=
  Cert.ReferenceIdeal.Read.val_main_v101 (F := Ideal) (KernelValue.arg0 m c) (KernelValue.arg1 m c) (KernelValue.arg2 m c) (KernelValue.arg3 m c) (arg4 m c)
    (KernelValue.arg5 m c) (KernelValue.arg6 m c) (KernelValue.arg7 m c) (KernelValue.arg8 m c) (KernelValue.arg9 m c)

/-- The precondition at the kernel's arguments. -/
abbrev Separated : Prop :=
  Cert.Pre_separated.fn (F := Ideal) (KernelValue.arg0 m c) (KernelValue.arg1 m c) (KernelValue.arg2 m c) (KernelValue.arg3 m c) (arg4 m c)
    (KernelValue.arg5 m c) (KernelValue.arg6 m c) (KernelValue.arg7 m c) (KernelValue.arg8 m c) (KernelValue.arg9 m c) = fun _ => 1#1

/-- The precondition says that the reference's scores are separated and the mask is zero. -/
theorem whole_eq (h : Separated m c) : Pred.whole (refScore m c) (arg4 m c) = fun _ => 1#1 := (Pred.fn_eq _ _ _ _ _ _ _ _ _ _).symm.trans h

/-- Under a zero mask the two programs' scores are the same. -/
theorem score_eq (h : Separated m c) (t s : Fin 2048) : KernelValue.score m c t s = refScore m c (ValueIdx.ix3 0 t s) := by
  refine Eq.symm ((RefScore.score_eq _ _ _ _ _ _ _ _ _ _ t s).trans ?_)
  rw [Pred.mask_zero _ _ (whole_eq m c h) (ValueIdx.ix3 0 t s), add_zero]
  rfl

/-- The kernel's result array is the reference's. -/
theorem result_eq (h : Separated m c) : (W6 m ρ c (Proc.devRef .tc main_v15) : FVec Ideal S1x2048x2048 .f32) = refOut m c := by
  funext i
  have e : i = ValueIdx.ix3 (0 : Fin 1) (i 1) (i 2) := by
    funext d
    fin_cases d
    · exact Subsingleton.elim (α := Fin 1) _ _
    · rfl
    · rfl
  rw [e]
  generalize (i 1 : Fin 2048) = t
  generalize (i 2 : Fin 2048) = s
  refine (KernelValue.result_apply m ρ c t s).trans (Eq.trans ?_ (RefOut.out_apply _ _ _ _ _ _ _ _ _ _ t s).symm)
  rw [show KernelValue.score m c t = fun s => refScore m c (ValueIdx.ix3 0 t s) from funext fun s => score_eq m c h t s]
  have hs := search_eq_top (refScore m c) (arg4 m c) (whole_eq m c h) t s
  by_cases ht : s ∈ TopK.top (refScore m c) t 1024
  · exact (if_pos (hs.2 ht)).trans (if_pos ht).symm
  · exact (if_neg fun hw => ht (hs.1 hw)).trans (if_neg ht).symm

end Cert.Proof.Equal
-- ==== Proof.KernelRun.lean ====
/-
  The kernel's run: every buffer of the TensorCores ends at the contents after the last stretch of host operations, so the result array does, and the
  arguments end as they began.
-/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The propositions of the launch's separation logic. -/
abbrev Res (F : FTy → Type) := sProp (MT nD τ sig Unit (Elt F) ℕ (UR sig nD τ) ℕ)

set_option backward.isDefEq.respectTransparency.types false in
/-- Every run ends, and every unscoped buffer of every TensorCore then holds the contents after the last stretch. -/
theorem ends : θ_run defs (onTc (τ := τ) (main (F := F))) ⟨m, fun _ => 0, ρ⟩ fun r =>
    ∀ c : Dev nD, ∀ b ∈ Pipeline.ucRefs τ sig, r.2.mem (((c : Thread nD τ)).1, b) = W6 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : Res F)
            ⊢ BI.own (emb₁ (initOf (Pipeline.cells cfgs cellOf_inj) (Pipeline.launchToks cfgs cellOf_inj))) from .rfl)
        iexact Hu
      iapply (show (BI.emp : Res F) ⊢ bigSep Finset.univ (fun _ : Dev nD => (BI.emp : Res F)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- Every run ends with the result array at its contents after the last stretch and the arguments unchanged. -/
theorem run : θ_run defs (onTc (τ := τ) (main (F := F))) ⟨m, fun _ => 0, ρ⟩ fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨h c _ (mem_uc main_v15 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩) (ends m ρ)

end Cert.Proof.KernelRun
-- ==== Proof.Algebraic.lean ====
/-
  The value claim: from memories agreeing on the arguments, of which the precondition holds, the kernel and the reference both run and end with the same
  result array.
-/
module

public import proofs.«01_k».proof.Defs
public import proofs.«01_k».proof.Proof.Equal
public import proofs.«01_k».proof.Proof.KernelRun
public import proofs.«01_k».proof.Proof.Gen.ReferenceIdeal.Run

@[expose] public section

noncomputable section

namespace Cert.Proof.Algebraic

open Idealize.ShloMosaic Idealize.ShloMosaic.TcCoe Idealize.SL.Sem

/-- The reference's result array, from a memory holding the kernel's arguments, is the reference's result at those arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = KernelValue.arg0 m c)
    (h1 : m' ((c.tc : Thread Cert.ReferenceIdeal.nD Cert.ReferenceIdeal.τ).loc Cert.ReferenceIdeal.main_arg1) = KernelValue.arg1 m c)
    (h2 : m' ((c.tc : Thread Cert.ReferenceIdeal.nD Cert.ReferenceIdeal.τ).loc Cert.ReferenceIdeal.main_arg2) = KernelValue.arg2 m c)
    (h3 : m' ((c.tc : Thread Cert.ReferenceIdeal.nD Cert.ReferenceIdeal.τ).loc Cert.ReferenceIdeal.main_arg3) = KernelValue.arg3 m c)
    (h4 : m' ((c.tc : Thread Cert.ReferenceIdeal.nD Cert.ReferenceIdeal.τ).loc Cert.ReferenceIdeal.main_arg4) = Equal.arg4 m c)
    (h5 : m' ((c.tc : Thread Cert.ReferenceIdeal.nD Cert.ReferenceIdeal.τ).loc Cert.ReferenceIdeal.main_arg5) = KernelValue.arg5 m c)
    (h6 : m' ((c.tc : Thread Cert.ReferenceIdeal.nD Cert.ReferenceIdeal.τ).loc Cert.ReferenceIdeal.main_arg6) = KernelValue.arg6 m c)
    (h7 : m' ((c.tc : Thread Cert.ReferenceIdeal.nD Cert.ReferenceIdeal.τ).loc Cert.ReferenceIdeal.main_arg7) = KernelValue.arg7 m c)
    (h8 : m' ((c.tc : Thread Cert.ReferenceIdeal.nD Cert.ReferenceIdeal.τ).loc Cert.ReferenceIdeal.main_arg8) = KernelValue.arg8 m c)
    (h9 : m' ((c.tc : Thread Cert.ReferenceIdeal.nD Cert.ReferenceIdeal.τ).loc Cert.ReferenceIdeal.main_arg9) = KernelValue.arg9 m c) :
    Cert.ReferenceIdeal.Value.res_main_v101 m' c = Equal.refOut m c := by
  rw [Cert.ReferenceIdeal.Read.val_main_v101_eq, h0, h1, h2, h3, h4, h5, h6, h7, h8, h9]

/-- Both programs run and end with the same result, at the kernel's final contents of its result array. -/
theorem algebraic : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' hpre hargs
  refine ⟨fun c => Cert.KernelIdeal.Gen.W6 m g c (Proc.devRef .tc Cert.KernelIdeal.main_v15), KernelRun.run m g, ?_⟩
  refine (θ_run _ _ _).mono (fun r h c => ⟨(h c).1.trans ?_, (h c).2⟩) (Cert.ReferenceIdeal.Value.run (F := Ideal) m' g')
  obtain ⟨h0, h1, h2, h3, h4, h5, h6, h7, h8, h9⟩ := hargs c
  exact (reference_value m m' c h0 h1 h2 h3 h4 h5 h6 h7 h8 h9).trans (Equal.result_eq m g c (hpre c)).symm

end Cert.Proof.Algebraic
-- ==== Proof.lean ====
/-
  The certificate: the kernel and its ideal reading run and leave their arguments and counters as they were, so does the reference, and where the mask is
  zero and every row's scores are separated at the cut the kernel's result is the reference's.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Algebraic

@[expose] public section

/-- Every claim of the certificate. -/
theorem Cert.Proof.claim : Cert.Claim :=
  ⟨Cert.Kernel.Gen.facts, Cert.KernelIdeal.Gen.facts, Cert.ReferenceIdeal.Gen.facts, Cert.Pre_separated.Gen.facts,
    fun m g _ => Cert.Kernel.Gen.frame m g, fun m g _ => Cert.KernelIdeal.Gen.frame m g, fun m g _ => Cert.KernelIdeal.Gen.frame m g,
    Cert.Proof.RefRun.frame, fun m g _ => Cert.Proof.RefRun.frame m g trivial, trivial, Cert.Proof.Algebraic.algebraic⟩
